-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4x1x512 : Shape := ⟨3, ![4, 1, 512]⟩
abbrev S3 : Shape := ⟨1, ![3]⟩
abbrev S_ : Shape := ⟨0, ![]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S1x1x512 : Shape := ⟨3, ![1, 1, 512]⟩
abbrev S1 : Shape := ⟨1, ![1]⟩
abbrev S511x512 : Shape := ⟨2, ![511, 512]⟩
abbrev S510x512 : Shape := ⟨2, ![510, 512]⟩
abbrev S508x512 : Shape := ⟨2, ![508, 512]⟩
abbrev S504x512 : Shape := ⟨2, ![504, 512]⟩
abbrev S496x512 : Shape := ⟨2, ![496, 512]⟩
abbrev S480x512 : Shape := ⟨2, ![480, 512]⟩
abbrev S448x512 : Shape := ⟨2, ![448, 512]⟩
abbrev S384x512 : Shape := ⟨2, ![384, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S4x1x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v75 : BitVec 32 := Scalar.addi v2 c1_i32_32
  let c4_i32_33 : BitVec 32 := 4#32
  let c0_i32_34 : BitVec 32 := 0#32
  let v76 : BitVec 1 := Scalar.cmpi .eq c4_i32_33 c0_i32_34
  let c1_i32_35 : BitVec 32 := 1#32
  let v77 : BitVec 32 := Scalar.select v76 c1_i32_35 c4_i32_33
  let v78 : BitVec 32 := Scalar.remsi v75 v77
  let c0_i32_37 : BitVec 32 := 0#32
  let v80 : BitVec 1 := Scalar.cmpi .slt v78 c0_i32_37
  let c0_i32_38 : BitVec 32 := 0#32
  let v81 : BitVec 1 := Scalar.cmpi .slt v77 c0_i32_38
  let v82 : BitVec 1 := Scalar.xori v80 v81
  let c0_i32_36 : BitVec 32 := 0#32
  let v79 : BitVec 1 := Scalar.cmpi .ne v78 c0_i32_36
  let v83 : BitVec 1 := Scalar.andi v82 v79
  let v84 : BitVec 32 := Scalar.addi v78 v77
  let v85 : BitVec 32 := Scalar.select v83 v84 v78
  let c1_i32_43 : BitVec 32 := 1#32
  let v86 : BitVec 32 := Scalar.muli v85 c1_i32_43
  let v87 : BitVec 32 := Scalar.addi c0_i32_44 v86
  v87.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v96 : BitVec 32 := Scalar.addi v2 c2_i32_49
  let c4_i32_50 : BitVec 32 := 4#32
  let c0_i32_51 : BitVec 32 := 0#32
  let v97 : BitVec 1 := Scalar.cmpi .eq c4_i32_50 c0_i32_51
  let c1_i32_52 : BitVec 32 := 1#32
  let v98 : BitVec 32 := Scalar.select v97 c1_i32_52 c4_i32_50
  let v99 : BitVec 32 := Scalar.remsi v96 v98
  let c0_i32_54 : BitVec 32 := 0#32
  let v101 : BitVec 1 := Scalar.cmpi .slt v99 c0_i32_54
  let c0_i32_55 : BitVec 32 := 0#32
  let v102 : BitVec 1 := Scalar.cmpi .slt v98 c0_i32_55
  let v103 : BitVec 1 := Scalar.xori v101 v102
  let c0_i32_53 : BitVec 32 := 0#32
  let v100 : BitVec 1 := Scalar.cmpi .ne v99 c0_i32_53
  let v104 : BitVec 1 := Scalar.andi v103 v100
  let v105 : BitVec 32 := Scalar.addi v99 v98
  let v106 : BitVec 32 := Scalar.select v104 v105 v99
  let c1_i32_60 : BitVec 32 := 1#32
  let v107 : BitVec 32 := Scalar.muli v106 c1_i32_60
  let v108 : BitVec 32 := Scalar.addi c0_i32_61 v107
  v108.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v117 : BitVec 32 := Scalar.addi v2 c3_i32_66
  let c4_i32_67 : BitVec 32 := 4#32
  let c0_i32_68 : BitVec 32 := 0#32
  let v118 : BitVec 1 := Scalar.cmpi .eq c4_i32_67 c0_i32_68
  let c1_i32_69 : BitVec 32 := 1#32
  let v119 : BitVec 32 := Scalar.select v118 c1_i32_69 c4_i32_67
  let v120 : BitVec 32 := Scalar.remsi v117 v119
  let c0_i32_71 : BitVec 32 := 0#32
  let v122 : BitVec 1 := Scalar.cmpi .slt v120 c0_i32_71
  let c0_i32_72 : BitVec 32 := 0#32
  let v123 : BitVec 1 := Scalar.cmpi .slt v119 c0_i32_72
  let v124 : BitVec 1 := Scalar.xori v122 v123
  let c0_i32_70 : BitVec 32 := 0#32
  let v121 : BitVec 1 := Scalar.cmpi .ne v120 c0_i32_70
  let v125 : BitVec 1 := Scalar.andi v124 v121
  let v126 : BitVec 32 := Scalar.addi v120 v119
  let v127 : BitVec 32 := Scalar.select v125 v126 v120
  let c1_i32_77 : BitVec 32 := 1#32
  let v128 : BitVec 32 := Scalar.muli v127 c1_i32_77
  let v129 : BitVec 32 := Scalar.addi c0_i32_78 v128
  v129.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S_, .bf16⟩
  | .hbm, ⟨2, _⟩ => ⟨S512, .bf16⟩
  | .hbm, ⟨3, _⟩ => ⟨S_, .bf16⟩
  | .hbm, ⟨4, _⟩ => ⟨S2048x512, .bf16⟩
  | .hbm, ⟨5, _⟩ => ⟨S_, .i32⟩
  | .hbm, ⟨6, _⟩ => ⟨S2048x512, .bf16⟩
  | .hbm, ⟨7, _⟩ => ⟨S_, .i32⟩
  | .hbm, ⟨8, _⟩ => ⟨S512, .bf16⟩
  | .hbm, ⟨9, _⟩ => ⟨S2048x512, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .bf16⟩
  | .hbm, ⟨14, _⟩ => ⟨S512, .bf16⟩
  | .hbm, ⟨15, _⟩ => ⟨S512, .bf16⟩
  | .hbm, ⟨16, _⟩ => ⟨S1x512, .bf16⟩
  | .hbm, ⟨17, _⟩ => ⟨S_, .i32⟩
  | .hbm, ⟨18, _⟩ => ⟨S2048x512, .bf16⟩
  | .hbm, ⟨19, _⟩ => ⟨S_, .i32⟩
  | .hbm, ⟨20, _⟩ => ⟨S_, .i32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 2048#32, 1#32⟩
-- ==== Proof.Slots.lean ====
/-
# The communication buffer as four rows

The kernel keeps a device's column product and the three it receives in one scratch buffer of four rows. Row 0 is
written by the device itself, row `j + 1` by the device `j + 1` places before it on the ring of four. This module names
the rows, the ring's neighbours and the contents of a row, and says what a copy, a store and a load do to a row.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours on the ring of four -/

set_option backward.proofsInPublic true in
/-- The device `j + 1` places after `c`. -/
def fwd (j : Fin 3) (c : Dev nD) : Dev nD := ⟨(c.val + (j.val + 1)) % 4, Nat.mod_lt _ (by decide)⟩
set_option backward.proofsInPublic true in
/-- The device `j + 1` places before `c`. -/
def bwd (j : Fin 3) (c : Dev nD) : Dev nD := ⟨(c.val + (3 - j.val)) % 4, Nat.mod_lt _ (by decide)⟩

/-- Going back and then forth leads home, -/
theorem fwd_bwd (j : Fin 3) (c : Dev nD) : fwd j (bwd j c) = c := by revert j c; decide
/-- as does going forth and then back. -/
theorem bwd_fwd (j : Fin 3) (c : Dev nD) : bwd j (fwd j c) = c := by revert j c; decide

/-- Going `j + 1` places along the ring, as a permutation of the devices. -/
def turn (j : Fin 3) : Dev nD ≃ Dev nD := ⟨fwd j, bwd j, bwd_fwd j, fwd_bwd j⟩

/-- The devices the three signals address: one, two and three places after the device. -/
theorem sig0_eq (c : Dev nD) : (⟨k0_dev1 c, k0_dev1_lt c⟩ : Dev nD) = bwd 2 c := by revert c; decide +kernel
/-- The second signal's device. -/
theorem sig1_eq (c : Dev nD) : (⟨k0_dev2 c, k0_dev2_lt c⟩ : Dev nD) = bwd 1 c := by revert c; decide +kernel
/-- The third signal's device. -/
theorem sig2_eq (c : Dev nD) : (⟨k0_dev3 c, k0_dev3_lt c⟩ : Dev nD) = bwd 0 c := by revert c; decide +kernel

/-- The devices the three copies address: likewise. -/
theorem copy0_eq (c : Dev nD) : (⟨k0_dev4 c, k0_dev4_lt c⟩ : Dev nD) = fwd 0 c := by revert c; decide +kernel
/-- The second copy's device. -/
theorem copy1_eq (c : Dev nD) : (⟨k0_dev5 c, k0_dev5_lt c⟩ : Dev nD) = fwd 1 c := by revert c; decide +kernel
/-- The third copy's device. -/
theorem copy2_eq (c : Dev nD) : (⟨k0_dev6 c, k0_dev6_lt c⟩ : Dev nD) = fwd 2 c := by revert c; decide +kernel

/-! ## The rows -/

/-- The scratch buffer, whole. -/
abbrev bufM : Memref sig .tc .vmem S4x1x512 .bf16 := Memref.whole cc0_scratch0

/-- A row lies inside the buffer. -/
theorem row_inb (j : Fin 4) : ∀ a, (![j.val, 0, 0] : Fin 3 → Nat) a + S1x1x512.size a ≤ S4x1x512.size a := by
  revert j; decide

/-- Row `j` of the buffer, as a rectangle of it. -/
abbrev rowR (j : Fin 4) : Rect S4x1x512 := Rect.unit (s := S4x1x512) ![j.val, 0, 0] S1x1x512.size (row_inb j)

/-- Row `j` of the buffer, as the copies address it. -/
abbrev rowM (j : Fin 4) : Memref sig .tc .vmem S1x512 .bf16 :=
  (bufM.slice (rowR j) (fun _ => rfl)).squeeze S1x512 squeezes_S1x1x512_S1x512

/-- The elements of row `j`. -/
abbrev row (j : Fin 4) : Finset S4x1x512.Idx := (rowR j).set

/-- The elements that a copy's view of row `j` reaches are row `j`. -/
theorem rowM_set (j : Fin 4) : (rowM j).view.set = row j := by
  show ((View.whole cc0_scratch0).slice (rowR j) |>.reshape S1x512 _).set = _
  rw [View.set_reshape, View.set_slice_whole]

/-- Different rows share no element. -/
theorem row_disjoint (j j' : Fin 4) (h : j ≠ j') : Disjoint (row j) (row j') :=
  Ring.lead_disjoint (s := S4x1x512) (NB := 4) 0 1 (fun b : Fin 4 => ![b.val, 0, 0]) S1x1x512.size row_inb
    (fun b => (Nat.one_mul _).symm) rfl j j' h

/-- The four rows make up the buffer. -/
theorem row_cover : Finset.univ.biUnion row = Finset.univ :=
  Ring.lead_cover (s := S4x1x512) (NB := 4) 0 1 (fun b : Fin 4 => ![b.val, 0, 0]) S1x1x512.size row_inb
    (fun b => (Nat.one_mul _).symm) (by decide) rfl (by decide) rfl

/-! ## Contents -/

/-- The buffer with the row `w` in every row. -/
def spread (w : Vec F S1x1x512 .bf16) : (cc0_scratch0 : Ref sig .tc).ty.Contents (Elt F) :=
  fun i : S4x1x512.Idx => w (fun | 0 => ⟨0, by decide⟩ | 1 => ⟨0, by decide⟩ | 2 => (i 2 : Fin 512))

omit [FloatOps F] in
/-- The buffer filled with copies of one row holds that row in each of its rows. -/
theorem spread_emb (w : Vec F S1x1x512 .bf16) (j : Fin 4) (x : S1x1x512.Idx) : spread w ((rowR j).emb x) = w x := by
  unfold spread
  refine congrArg w (funext fun a => Fin.ext ?_)
  have h0 : (x 0).val < 1 := (x 0).isLt
  have h1 : (x 1).val < 1 := (x 1).isLt
  fin_cases a
  · show 0 = (x 0).val; omega
  · show 0 = (x 1).val; omega
  · show ((rowR j).emb x 2).val = (x 2).val
    rw [Rect.emb_apply]
    show 0 + 1 * (x 2).val = _; omega

omit [FloatOps F] in
/-- Loading row `j` of a buffer that has `w` there gives `w`. -/
theorem load_row (w : Vec F S1x1x512 .bf16) (j : Fin 4) :
    (bufM : Memref sig .tc .vmem S4x1x512 .bf16).view.readAt (Elt F) (rowR j).toLoadRect (spread w) = w :=
  funext fun x => spread_emb w j x

omit [FloatOps F] in
/-- Storing `w` into row `j` leaves `w` in that row. -/
theorem store_row (w : Vec F S1x1x512 .bf16) (j : Fin 4) (f : (cc0_scratch0 : Ref sig .tc).ty.Contents (Elt F))
    (i : S4x1x512.Idx) (hi : i ∈ row j) :
    (bufM.access (rowR j) : View sig .tc _ _ _).write (Elt F) f w Finset.univ i = spread w i := by
  have hi' : i ∈ (bufM.access (rowR j) : View sig .tc _ _ _).set := (View.set_slice_whole cc0_scratch0 (rowR j)).symm ▸ hi
  obtain ⟨x, -, rfl⟩ := Finset.mem_map.mp hi'
  refine Eq.trans ?_ (spread_emb w j x).symm
  exact View.write_emb_of_mem (v := (bufM.access (rowR j) : View sig .tc _ _ _)) _ _ (Finset.mem_univ x)

omit [FloatOps F] in
/-- Copying row `j'` of a buffer that has `w` there over row `j` leaves `w` in row `j`. -/
theorem copy_row (w : Vec F S1x1x512 .bf16) (j j' : Fin 4) (f : (cc0_scratch0 : Ref sig .tc).ty.Contents (Elt F))
    (i : S4x1x512.Idx) (hi : i ∈ row j) :
    (rowM j).view.write (Elt F) f ((rowM j').view.read (Elt F) (spread w)) Finset.univ i = spread w i := by
  rw [← rowM_set] at hi
  obtain ⟨x, -, rfl⟩ := Finset.mem_map.mp hi
  refine (View.write_emb_of_mem (v := (rowM j).view) _ _ (Finset.mem_univ x)).trans ?_
  exact (spread_emb w j' _).trans (spread_emb w j _).symm

end Cert.Scan

end
-- ==== Proof.Protocol.lean ====
/-
# The protocol of the exchange

A device has three lanes, `j = 0, 1, 2`. On lane `j` it tells the device `j + 1` places before it that its row `j + 1`
is free, and copies its own column product into row `j + 1` of the device `j + 1` places after it. Seven semaphores
count this: the barrier, which collects the three "free" signals, and per lane a send and a receive semaphore.

Each semaphore has one round. The barrier's duty `j` is paid by the device `j + 1` places after, with its row `j + 1`.
A send semaphore's duty gives the row that was read back; a receive semaphore's duty gives row `j + 1` with the column
product of the device `j + 1` places before.
-/
module

public import proofs.«01_k».proof.Proof.Slots

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources of the exchange: rounds with duties named by the lane. -/
abbrev UX : Type := URounds (GSem nD τ sig) (Fin 3)
/-- The pipeline's resources and the exchange's. -/
abbrev UU : Type := UR sig nD τ × UX

local notation "𝕄" => MT nD τ sig Unit (Elt F) ℕ UU ℕ

/-- Where the pipeline's ghost state lies, -/
abbrev EP : Emb (UR sig nD τ) (MT nD τ sig Unit (Elt F) ℕ UU ℕ) := embL
/-- and where the exchange's does. -/
abbrev EX : Emb UX (MT nD τ sig Unit (Elt F) ℕ UU ℕ) := embR

variable (m : (ℓ : Loc nD τ sig) → Buf (Elt F) ℓ) (ρ : Dev nD → PrngReg)

/-- The state at launch: any memory, every semaphore at zero. -/
def s₀ : MemSt nD τ sig (Elt F) := ⟨m, fun _ => 0, ρ⟩

/-! ## The semaphores -/

/-- The barrier semaphore. -/
abbrev barS : Sem sig := (SemArray.scalar (sig.barrier 0 rfl) : Sems sig S_).sem

/-- A lane's place in an array of three semaphores. -/
theorem lane_inb (j : Fin 3) : ∀ a, (![j.val] : Fin 1 → Nat) a + S1.size a ≤ S3.size a := by revert j; decide

/-- Lane `j`'s element of an array of three semaphores. -/
abbrev laneSem (a : DmaSems sig S3) (j : Fin 3) : DmaSem sig :=
  ((a.slice (Rect.unit (s := S3) ![j.val] S1.size (lane_inb j))).squeeze S_ squeezes_S1_S_).sem

/-- Lane `j`'s send semaphore, -/
abbrev sendS (j : Fin 3) : DmaSem sig := laneSem cc0_scratch1 j
/-- and its receive semaphore. -/
abbrev recvS (j : Fin 3) : DmaSem sig := laneSem cc0_scratch2 j

/-- Device `c`'s barrier, -/
abbrev barCell (c : Dev nD) : GSem nD τ sig := ((c : Thread nD τ), .reg barS)
/-- its send semaphore on lane `j`, -/
abbrev sendCell (j : Fin 3) (c : Dev nD) : GSem nD τ sig := ((c : Thread nD τ), .dma (sendS j))
/-- and its receive semaphore on lane `j`. -/
abbrev recvCell (j : Fin 3) (c : Dev nD) : GSem nD τ sig := ((c : Thread nD τ), .dma (recvS j))

/-- Which semaphore of which lane a location is: `false` for sends, `true` for receives. -/
def laneOf : SemLoc sig → Option (Bool × Fin 3)
  | .dma q => if h : 2 ≤ q.val ∧ q.val < 5 then some (false, ⟨q.val - 2, by omega⟩)
      else if h : 5 ≤ q.val ∧ q.val < 8 then some (true, ⟨q.val - 5, by omega⟩) else none
  | _ => none

/-- A send semaphore is read as one, -/
theorem laneOf_send (j : Fin 3) : laneOf (.dma (sendS j)) = some (false, j) := by revert j; decide
/-- a receive semaphore as one, -/
theorem laneOf_recv (j : Fin 3) : laneOf (.dma (recvS j)) = some (true, j) := by revert j; decide
/-- and the barrier as neither. -/
theorem laneOf_bar : laneOf (.reg barS) = none := rfl

/-- A send semaphore is not the barrier, -/
theorem send_ne_bar (j : Fin 3) : (SemLoc.dma (sendS j) : SemLoc sig) ≠ .reg barS := fun h => by cases h
/-- nor is a receive semaphore. -/
theorem recv_ne_bar (j : Fin 3) : (SemLoc.dma (recvS j) : SemLoc sig) ≠ .reg barS := fun h => by cases h

/-- What one copy adds to its semaphores: the credit of one row. -/
abbrev N : ℕ := (rowM 0).view.dmaCredit
/-- A row's credit is positive. -/
theorem N_pos : 0 < N := View.dmaCredit_pos _ (by decide)

/-! ## Contents and points-to facts -/

/-- Device `c`'s block of the argument, as the pipeline stages it. -/
def xblk (c : Dev nD) : (cc0_stg0_0 : Ref sig .tc).ty.Contents (Elt F) :=
  (win0_0.blk (0 : Fin 1)).view.read (Elt F) ((s₀ m ρ).mem ((c : Thread nD τ).loc main_arg0))

/-- Device `c`'s column product. -/
def tot (c : Dev nD) : Vec F S1x1x512 .bf16 := k0_pay2 (xblk m ρ c)

/-- Row `j` of device `c`'s buffer, held at share `q` with the contents `f`. -/
def rowPts (c : Dev nD) (j : Fin 4) (q : PosShare TreeShare) (f : Buf (Elt F) ((c : Thread nD τ).loc cc0_scratch0)) : sProp 𝕄 :=
  ((c : Thread nD τ).loc cc0_scratch0) ↦[row j]{q} f

omit [FloatOps F] in
/-- A row's points-to may be kept in an invariant. -/
instance rowPts_storable (c : Dev nD) (j q f) : BI.Storable (upEmb : UEmb _ 𝕄) (rowPts (F := F) c j q f) := by
  unfold rowPts; infer_instance

/-- The share of row 0 that lane `j`'s copy reads with. -/
def part : Fin 3 → PosShare TreeShare
  | 0 => fullShare.left
  | 1 => fullShare.right.left
  | 2 => fullShare.right.right

omit [FloatOps F] in
/-- A row held outright is held in three parts, one for each lane. -/
theorem rowPts_parts (c : Dev nD) (j : Fin 4) (f) :
    (rowPts (F := F) c j fullShare f) ⊣⊢ iprop(rowPts c j (part 0) f ∗ rowPts c j (part 1) f ∗ rowPts c j (part 2) f) := by
  unfold rowPts part
  have h1 := pointsTo_share (Ix := Unit) (Val := Elt F) (Name := ℕ) (U := UU) (Lvl := ℕ) (ℓ := (c : Thread nD τ).loc cc0_scratch0) (I := row j) (f := f)
    (PosShare.mem_left_op_right fullShare)
  have h2 := pointsTo_share (Ix := Unit) (Val := Elt F) (Name := ℕ) (U := UU) (Lvl := ℕ) (ℓ := (c : Thread nD τ).loc cc0_scratch0) (I := row j) (f := f)
    (PosShare.mem_left_op_right fullShare.right)
  exact ⟨h1.1.trans (sep_mono_right h2.1), (sep_mono_right h2.2).trans h1.2⟩

omit [FloatOps F] in
/-- A row's points-to depends on its contents in the row only. -/
theorem rowPts_congr (c : Dev nD) (j : Fin 4) (q) (f g : Buf (Elt F) ((c : Thread nD τ).loc cc0_scratch0)) (h : ∀ i ∈ row j, f i = g i) :
    rowPts c j q f = (rowPts c j q g : sProp 𝕄) := pointsTo_congr h

/-! ## The schedule -/

/-- What lane `j`'s signal hands to `c`: row `j + 1` of the device the lane's copy goes to, at any contents, and that
    this device has begun the round of its receive semaphore. -/
def freePay (c : Dev nD) (j : Fin 3) : sProp 𝕄 :=
  iprop((∃ f, rowPts (fwd j c) j.succ fullShare f) ∗ reached EX (recvCell j (fwd j c)) 0)
/-- What lane `j`'s copy gives back to its sender: the part of row 0 it read. -/
def sentPay (c : Dev nD) (j : Fin 3) : sProp 𝕄 := rowPts c 0 (part j) (spread (tot m ρ c))
/-- What lane `j`'s copy hands to its receiver: row `j + 1` with the sender's column product. -/
def gotPay (c : Dev nD) (j : Fin 3) : sProp 𝕄 := rowPts c j.succ fullShare (spread (tot m ρ (bwd j c)))

/-- The duties, amounts and payloads of the seven semaphores of every device. -/
def sched : Rounds.Schedule (GSem nD τ sig) (Fin 3) 𝕄 where
  duties g r := if r = 0 ∧ g.1.2 = .tc then
      (if g.2 = .reg barS then Finset.univ else if (laneOf g.2).isSome then {0} else ∅) else ∅
  unitless _ := False
  amount g _ _ := if g.2 = .reg barS then 1 else N
  payload g _ d := if g.2 = .reg barS then freePay g.1.1 d else
    match laneOf g.2 with
    | some (false, j) => sentPay m ρ g.1.1 j
    | some (true, j) => gotPay m ρ g.1.1 j
    | none => iprop(emp)
  amount_pos g _ _ _ := by
    by_cases h : g.2 = .reg barS
    · rw [if_pos h]; exact Nat.one_pos
    · rw [if_neg h]; exact N_pos

/-- So may everything that a payment hands over. -/
instance sched_storable (g : GSem nD τ sig) (r : ℕ) (d : Fin 3) :
    BI.Storable (upEmb : UEmb _ 𝕄) ((sched (F := F) m ρ).payload g r d) := by
  unfold sched freePay sentPay gotPay
  dsimp only
  split
  · infer_instance
  · split <;> infer_instance

section Reads
variable (c : Dev nD) (j : Fin 3)

/-- The barrier has three duties, -/
theorem duties_bar : (sched (F := F) m ρ).duties (barCell c) 0 = Finset.univ := by
  unfold sched; dsimp only; rw [if_pos ⟨rfl, rfl⟩, if_pos rfl]
/-- a send semaphore one, -/
theorem duties_send : (sched (F := F) m ρ).duties (sendCell j c) 0 = {0} := by
  unfold sched; dsimp only; rw [if_pos ⟨rfl, rfl⟩, if_neg (send_ne_bar j), laneOf_send]; rfl
/-- a receive semaphore one. -/
theorem duties_recv : (sched (F := F) m ρ).duties (recvCell j c) 0 = {0} := by
  unfold sched; dsimp only; rw [if_pos ⟨rfl, rfl⟩, if_neg (recv_ne_bar j), laneOf_recv]; rfl
/-- No semaphore has a second round. -/
theorem duties_after (g : GSem nD τ sig) (r : ℕ) (hr : 1 ≤ r) : (sched (F := F) m ρ).duties g r = ∅ :=
  by unfold sched; dsimp only; rw [if_neg fun h => by omega]

/-- A signal pays one, -/
theorem amount_bar (d : Fin 3) : (sched (F := F) m ρ).amount (barCell c) 0 d = 1 := by unfold sched; dsimp only; rw [if_pos rfl]
/-- a copy a row's credit to its send semaphore, -/
theorem amount_send (d : Fin 3) : (sched (F := F) m ρ).amount (sendCell j c) 0 d = N := by unfold sched; dsimp only; rw [if_neg (send_ne_bar j)]
/-- and the same to its receive semaphore. -/
theorem amount_recv (d : Fin 3) : (sched (F := F) m ρ).amount (recvCell j c) 0 d = N := by unfold sched; dsimp only; rw [if_neg (recv_ne_bar j)]

/-- The three signals together bring the barrier to three. -/
theorem expect_bar : (sched (F := F) m ρ).expect (barCell c) 0 = 3 := by
  unfold Schedule.expect Schedule.amountOf
  rw [duties_bar, Finset.sum_congr rfl fun d _ => amount_bar m ρ c d]; rfl
/-- A send semaphore comes to one row's credit, -/
theorem expect_send : (sched (F := F) m ρ).expect (sendCell j c) 0 = N := by
  unfold Schedule.expect Schedule.amountOf; rw [duties_send, Finset.sum_singleton, amount_send]
/-- as does a receive semaphore. -/
theorem expect_recv : (sched (F := F) m ρ).expect (recvCell j c) 0 = N := by
  unfold Schedule.expect Schedule.amountOf; rw [duties_recv, Finset.sum_singleton, amount_recv]

/-- What a signal hands over, -/
theorem payload_bar (d : Fin 3) : (sched (F := F) m ρ).payload (barCell c) 0 d = freePay c d := by unfold sched; dsimp only; rw [if_pos rfl]
/-- what a copy gives back to its sender, -/
theorem payload_send (d : Fin 3) : (sched (F := F) m ρ).payload (sendCell j c) 0 d = sentPay m ρ c j := by
  unfold sched; dsimp only; rw [if_neg (send_ne_bar j), laneOf_send]
/-- and what it hands to its receiver. -/
theorem payload_recv (d : Fin 3) : (sched (F := F) m ρ).payload (recvCell j c) 0 d = gotPay m ρ c j := by
  unfold sched; dsimp only; rw [if_neg (recv_ne_bar j), laneOf_recv]

/-- A full barrier round hands over the three rows the device's copies write. -/
theorem round_bar : bigSep ((sched (F := F) m ρ).duties (barCell c) 0 \ ∅) (fun d => (sched (F := F) m ρ).payload (barCell c) 0 d)
    = iprop(freePay c 0 ∗ freePay c 1 ∗ freePay c 2) := by
  rw [Finset.sdiff_empty, duties_bar, Ring.bigSep_fin3, payload_bar, payload_bar, payload_bar]
/-- A full round of a send semaphore gives back the part of row 0, -/
theorem round_send : bigSep ((sched (F := F) m ρ).duties (sendCell j c) 0 \ ∅) (fun d => (sched (F := F) m ρ).payload (sendCell j c) 0 d)
    = sentPay m ρ c j := by
  rw [Finset.sdiff_empty, duties_send, bigSep_singleton, payload_send]
/-- one of a receive semaphore hands over the row. -/
theorem round_recv : bigSep ((sched (F := F) m ρ).duties (recvCell j c) 0 \ ∅) (fun d => (sched (F := F) m ρ).payload (recvCell j c) 0 d)
    = gotPay m ρ c j := by
  rw [Finset.sdiff_empty, duties_recv, bigSep_singleton, payload_recv]

end Reads

/-! ## What a device owes, and the order of the waits -/

/-- Owed once the first two copies are under way: the third. -/
def owed₂ (c : Dev nD) : CellTallies nD τ sig Unit := 0 + tallyAt (recvCell 2 (fwd 2 c)) () N
/-- Owed once the first copy is under way. -/
def owed₁ (c : Dev nD) : CellTallies nD τ sig Unit := owed₂ c + tallyAt (recvCell 1 (fwd 1 c)) () N
/-- Owed once the signals are given: the three copies. -/
def owed₀ (c : Dev nD) : CellTallies nD τ sig Unit := owed₁ c + tallyAt (recvCell 0 (fwd 0 c)) () N
/-- Owed before the last signal. -/
def owes₁ (c : Dev nD) : CellTallies nD τ sig Unit := owed₀ c + tallyAt (barCell (bwd 0 c)) () 1
/-- Owed before the last two signals. -/
def owes₂ (c : Dev nD) : CellTallies nD τ sig Unit := owes₁ c + tallyAt (barCell (bwd 1 c)) () 1
/-- Owed at launch: the three signals and the three copies. -/
def owes₃ (c : Dev nD) : CellTallies nD τ sig Unit := owes₂ c + tallyAt (barCell (bwd 2 c)) () 1

def L (g : GSem nD τ sig) : Finset Unit := if g.1.2 = .tc then {()} else ∅
/-- The order: a device waits on its barrier while it owes copies only, and on nothing above a receive. -/
def lv (g : GSem nD τ sig) (_ : Unit) : ℕ :=
  if g.2 = .reg barS then 1 else match laneOf g.2 with | some (true, _) => 2 | _ => 0

/-- The other threads have no levels, -/
theorem L_core (g : GSem nD τ sig) (h : g.1.2 ≠ .tc) : L g = ∅ := if_neg h
/-- a device's main thread has one for each semaphore. -/
theorem L_tc (c : Dev nD) (sm : SemLoc sig) : L ((c : Thread nD τ), sm) = {()} := if_pos rfl
/-- The barrier lies at level 1, -/
theorem lv_bar (c : Dev nD) (u : Unit) : lv (barCell c) u = 1 := if_pos rfl
/-- the receive semaphores at level 2. -/
theorem lv_recv (j : Fin 3) (c : Dev nD) (u : Unit) : lv (recvCell j c) u = 2 := by
  unfold lv; rw [if_neg (recv_ne_bar j), laneOf_recv]

/-- A tally with one more entry is positive where the old one is or at the new cell. -/
theorem pos_add {O : CellTallies nD τ sig Unit} {g' : GSem nD τ sig} {n : ℕ} {g : GSem nD τ sig} {u : Unit}
    (h : 0 < (O + tallyAt g' () n) g u) : 0 < O g u ∨ g = g' := by
  by_contra hn
  rw [not_or] at hn
  rw [Pi.add_apply, Finsupp.add_apply, tallyAt_apply, if_neg (fun h' => hn.2 h'.1), Nat.add_zero] at h
  exact hn.1 h

/-- The copies are owed to receive semaphores. -/
theorem owed₀_pos {c : Dev nD} {g : GSem nD τ sig} {u : Unit} (h : 0 < owed₀ c g u) : ∃ j d, g = recvCell j d := by
  rcases pos_add h with h | h
  · rcases pos_add h with h | h
    · rcases pos_add h with h | h
      · exact absurd h (Nat.lt_irrefl 0)
      · exact ⟨_, _, h⟩
    · exact ⟨_, _, h⟩
  · exact ⟨_, _, h⟩

/-- At launch a device owes receive and barrier semaphores only. -/
theorem owes₃_pos {c : Dev nD} {g : GSem nD τ sig} {u : Unit} (h : 0 < owes₃ c g u) :
    (∃ j d, g = recvCell j d) ∨ ∃ d, g = barCell d := by
  rcases pos_add h with h | h
  · rcases pos_add h with h | h
    · rcases pos_add h with h | h
      · exact .inl (owed₀_pos h)
      · exact .inr ⟨_, h⟩
    · exact .inr ⟨_, h⟩
  · exact .inr ⟨_, h⟩

omit [FloatOps F] in
/-- A wait on a semaphore below those owed. -/
theorem mayWait_below (c : Dev nD) (sm : SemLoc sig) (n : ℕ) (O : CellTallies nD τ sig Unit)
    (hn : lv ((c : Thread nD τ), sm) () ≤ n) (hO : ∀ g u, 0 < O g u → () ∈ L g ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

omit [FloatOps F] in
/-- The barrier may be waited for while the copies are owed. -/
theorem mayWait_bar (c : Dev nD) : (levAts L lv : sProp 𝕄) ⊢ MayWait (c : Thread nD τ) (.reg barS) () (owed₀ c) :=
  mayWait_below c _ 1 _ (by rw [lv_bar]) fun g u hg => by
    obtain ⟨j, d, rfl⟩ := owed₀_pos hg
    exact ⟨by rw [L_tc]; exact Finset.mem_singleton_self _, by rw [lv_recv]; decide⟩

omit [FloatOps F] in
/-- A staging semaphore may be waited for whatever is owed. -/
theorem mayWait_stage (c : Dev nD) (q : DmaSem sig) (hq : laneOf (.dma q) = none) (O : CellTallies nD τ sig Unit)
    (hO : O = owes₃ c ∨ O = 0) : (levAts L lv : sProp 𝕄) ⊢ MayWait (c : Thread nD τ) (.dma q) () O := by
  rcases hO with rfl | rfl
  · refine mayWait_below c _ 0 _ (by unfold lv; rw [if_neg (fun h => by cases h), hq]) fun g u hg => ?_
    rcases owes₃_pos hg with ⟨j, d, rfl⟩ | ⟨d, rfl⟩
    · exact ⟨by rw [L_tc]; exact Finset.mem_singleton_self _, by rw [lv_recv]; decide⟩
    · exact ⟨by rw [L_tc]; exact Finset.mem_singleton_self _, by rw [lv_bar]; decide⟩
  · rw [MayWait_zero]; iintro -; iempintro

end Cert.Scan

end
-- ==== Proof.Rows.lean ====
/-
# Loads and stores of the exchange buffer

The buffer held whole is its four rows held one by one; a row is loaded and stored alone.
-/
module

public import proofs.«01_k».proof.Proof.Protocol

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program has no measured loops. -/
abbrev 𝒱₀ : Variants := Variants.none

/-- The whole exchange buffer of device `c`. -/
def bufPts (c : Dev nD) (f : Buf (Elt F) ((c : Thread nD τ).loc cc0_scratch0)) : sProp 𝕄 :=
  ((c : Thread nD τ).loc cc0_scratch0) ↦{fullShare} f

omit [FloatOps F] in
/-- A resource for each of four rows, written out. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons, bigSepL_nil]
  rw [sep_emp_eq]; rfl

omit [FloatOps F] in
/-- The buffer is its four rows. -/
theorem rows_split (c : Dev nD) (f) :
    (bufPts (F := F) c f) = iprop(rowPts c 0 fullShare f ∗ rowPts c 1 fullShare f ∗ rowPts c 2 fullShare f ∗ rowPts c 3 fullShare f) := by
  have h := Ring.pointsTo_blocks (Ix := Unit) (Val := Elt F) (Name := ℕ) (U := UU) (Lvl := ℕ) (ℓ := (c : Thread nD τ).loc cc0_scratch0) (B := Fin 4)
    row row_disjoint row_cover (q := fullShare) f
  exact h.trans (bigSep_four _)

omit [FloatOps F] in
/-- Four rows at contents of their own are the buffer at some contents. -/
theorem rows_join (c : Dev nD) (f₀ f₁ f₂ f₃) :
    iprop(rowPts c 0 fullShare f₀ ∗ rowPts c 1 fullShare f₁ ∗ rowPts c 2 fullShare f₂ ∗ rowPts c 3 fullShare f₃)
      ⊢ (iprop(∃ f, bufPts (F := F) c f) : sProp 𝕄) := by
  have h := Ring.pointsTo_blocks_join (Ix := Unit) (Val := Elt F) (Name := ℕ) (U := UU) (Lvl := ℕ) (ℓ := (c : Thread nD τ).loc cc0_scratch0) (B := Fin 4)
    row row_disjoint row_cover (q := fullShare) (![f₀, f₁, f₂, f₃]) f₀
  rw [bigSep_four] at h
  exact h

section Rules
variable (c : Dev nD)

/-- Loading a row whatever it holds. -/
theorem wp_peek_row {α : Type} {Q : α → sProp 𝕄} (j : Fin 4) {k : Vec F S1x1x512 .bf16 → Prog (TpuEff nD τ sig (Elt F) Λ₀ .tc) α}
    {hl : (bufM : Memref sig .tc .vmem S4x1x512 .bf16).view.LoadsAt (rowR j).toLoadRect} (f) :
    rowPts c j fullShare f
      ⊢ iprop((rowPts c j fullShare f -∗ wp frame (wpE (defs₀ (F := F)) 𝒱₀ (c : Thread nD τ) none) Set.univ
            (k (((bufM : Memref sig .tc .vmem S4x1x512 .bf16).access (rowR j)).read (Elt F) f)) Q)
          -∗ wp frame (wpE (defs₀ (F := F)) 𝒱₀ (c : Thread nD τ) none) Set.univ (.op (.load bufM (rowR j).toLoadRect hl) k) Q) :=
  wp_load_rect 𝒱₀ (c : Thread nD τ) none Set.univ (m := bufM) (r := rowR j) (hl := hl) (k := k) (Q := Q) (q := fullShare)
    (f := f) (S := row j) (View.set_slice_whole cc0_scratch0 (rowR j)).le

/-- Loading a row that holds `w` gives `w`. -/
theorem wp_load_row {α : Type} {Q : α → sProp 𝕄} (j : Fin 4) {k : Vec F S1x1x512 .bf16 → Prog (TpuEff nD τ sig (Elt F) Λ₀ .tc) α}
    {hl : (bufM : Memref sig .tc .vmem S4x1x512 .bf16).view.LoadsAt (rowR j).toLoadRect} (w : Vec F S1x1x512 .bf16) :
    rowPts c j fullShare (spread w)
      ⊢ iprop((rowPts c j fullShare (spread w) -∗ wp frame (wpE (defs₀ (F := F)) 𝒱₀ (c : Thread nD τ) none) Set.univ (k w) Q)
          -∗ wp frame (wpE (defs₀ (F := F)) 𝒱₀ (c : Thread nD τ) none) Set.univ (.op (.load bufM (rowR j).toLoadRect hl) k) Q) := by
  have h := wp_peek_row c j (k := k) (Q := Q) (hl := hl) (spread w)
  rwa [show ((bufM : Memref sig .tc .vmem S4x1x512 .bf16).access (rowR j)).read (Elt F) (spread w) = w from load_row w j] at h

/-- Storing `w` into a row, the contents written out. -/
theorem wp_poke_row {α : Type} {Q : α → sProp 𝕄} (j : Fin 4) {k : PUnit → Prog (TpuEff nD τ sig (Elt F) Λ₀ .tc) α} (w : Vec F S1x1x512 .bf16)
    {hx : ((bufM : Memref sig .tc .vmem S4x1x512 .bf16).access (rowR j)).Stores Finset.univ} {hm} (f) :
    rowPts c j fullShare f
      ⊢ iprop((rowPts c j fullShare ((bufM.access (rowR j) : View sig .tc _ _ _).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store bufM (rowR j) w Finset.univ hx hm) k) Q) :=
  wp_store 𝒱₀ (c : Thread nD τ) none Set.univ (m := bufM) (r := rowR j) (w := w) (Mk := Finset.univ) (hx := hx) (hm := hm)
    (k := k) (Q := Q) (f := f) (S := row j) ((View.setOn_subset_set _ _).trans (View.set_slice_whole cc0_scratch0 (rowR j)).le)

/-- Storing `w` into a row leaves it there. -/
theorem wp_store_row {α : Type} {Q : α → sProp 𝕄} (j : Fin 4) {k : PUnit → Prog (TpuEff nD τ sig (Elt F) Λ₀ .tc) α} (w : Vec F S1x1x512 .bf16)
    {hx : ((bufM : Memref sig .tc .vmem S4x1x512 .bf16).access (rowR j)).Stores Finset.univ} {hm} (f) :
    rowPts c j fullShare f
      ⊢ iprop((rowPts c j fullShare (spread w) -∗ wp frame (wpE (defs₀ (F := F)) 𝒱₀ (c : Thread nD τ) none) Set.univ (k ⟨⟩) Q)
          -∗ wp frame (wpE (defs₀ (F := F)) 𝒱₀ (c : Thread nD τ) none) Set.univ (.op (.store bufM (rowR j) w Finset.univ hx hm) k) Q) := by
  have h := wp_poke_row c j (k := k) (Q := Q) w (hx := hx) (hm := hm) f
  rwa [rowPts_congr c j fullShare _ _ (store_row w j f)] at h

end Rules

end Cert.Scan

end
-- ==== Proof.Steps.lean ====
/-
# One lane's steps

The ghost state a device starts from, lane by lane, and the rule for each thing it does on a lane: the signal that its
row is free, the copy, the wait for the copy to have left, the wait for the copy coming in, and the closing of the two
semaphores.
-/
module

public import proofs.«01_k».proof.Proof.Rows

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A device's semaphores by name: the barrier (`none`), a lane's send (`some (false, j)`) or receive (`some (true, j)`). -/
abbrev Cell : Type := Option (Bool × Fin 3)

/-- A device's semaphore by its name. -/
abbrev cellSem : Cell → SemLoc sig
  | none => .reg barS
  | some (false, j) => .dma (sendS j)
  | some (true, j) => .dma (recvS j)
/-- The semaphore of a device and a name. -/
abbrev cellAt (ck : Dev nD × Cell) : GSem nD τ sig := ((ck.1 : Thread nD τ), cellSem ck.2)

variable (K : Dev nD × Cell → ℕ)

/-- The shared facts of lane `j` that device `c` uses: the invariants and begun rounds of the barrier it signals, of its
    own send and receive semaphores, and of the receive semaphore its copy completes on. -/
def laneFacts (c : Dev nD) (j : Fin 3) : sProp 𝕄 :=
  iprop(cellInv EX (sched m ρ) (K (bwd j c, none)) (barCell (bwd j c)) ∗ cellInv EX (sched m ρ) (K (c, some (false, j))) (sendCell j c)
    ∗ cellInv EX (sched m ρ) (K (c, some (true, j))) (recvCell j c) ∗ cellInv EX (sched m ρ) (K (fwd j c, some (true, j))) (recvCell j (fwd j c))
    ∗ reached EX (barCell (bwd j c)) 0 ∗ reached EX (sendCell j c) 0 ∗ reached EX (recvCell j c) 0 ∗ reached EX (recvCell j (fwd j c)) 0)

/-- A lane's shared facts may be used any number of times. -/
instance laneFacts_persistent (c : Dev nD) (j : Fin 3) : BI.Persistent (laneFacts m ρ K c j) := by unfold laneFacts; infer_instance

/-- What is device `c`'s alone on lane `j`: its places at its two semaphores, and the duties it pays. -/
def laneOwn (c : Dev nD) (j : Fin 3) : sProp 𝕄 :=
  iprop((atPos EX (sendCell j c) 0 ∅ 0 ∗ atPos EX (recvCell j c) 0 ∅ 0)
    ∗ dutyTok EX (barCell (bwd j c)) 0 j ∗ dutyTok EX (sendCell j c) 0 0 ∗ dutyTok EX (recvCell j (fwd j c)) 0 0)

/-- The ghost state device `c` starts from. -/
def ghost (c : Dev nD) : sProp 𝕄 :=
  iprop((cellInv EX (sched m ρ) (K (c, none)) (barCell c) ∗ laneFacts m ρ K c 0 ∗ laneFacts m ρ K c 1 ∗ laneFacts m ρ K c 2)
    ∗ atPos EX (barCell c) 0 ∅ 0 ∗ laneOwn c 0 ∗ laneOwn c 1 ∗ laneOwn c 2)

section Rules
variable (c : Dev nD) (j : Fin 3)

/-- The signal of lane `j`: device `c` gives away its row `j + 1`. -/
theorem wp_free
    {α : Type} {Q : α → sProp 𝕄} {k : PUnit → Prog (TpuEff nD τ sig (Elt F) Λ₀ .tc) α}
    (n : Dev nD) (hn : n = bwd j c) (f : Buf (Elt F) ((c : Thread nD τ).loc cc0_scratch0)) (O : CellTallies nD τ sig Unit) (W : Waits sig Unit) :
    iprop(laneFacts m ρ K c j ∗ owes (c : Thread nD τ) (O + tallyAt (barCell (bwd j c)) () 1) W
        ∗ dutyTok EX (barCell (bwd j c)) 0 j ∗ rowPts c j.succ fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toInt) k) Q) := by
  subst hn
  unfold laneFacts
  iintro ⟨⟨#HI, -, -, -, #HB, -, #HR, -⟩, HO, Ht, Hrow⟩ Hk
  iapply (Rounds.wp_signal 𝒱₀ EX (sched m ρ) (c : Thread nD τ) none (dst := (bwd j c : Thread nD τ)) (κ := K (bwd j c, none))
      (d := j) (by rw [duties_bar]; exact Finset.mem_univ _) ((amount_bar m ρ (bwd j c) j).trans (by decide)) () O rfl) $$ [HO Ht Hrow]
  · isplitr; · iexact HI
    isplitl [HO]; · iexact HO
    isplitl [Ht]; · iexact Ht
    isplitl [Hrow]
    · rw [payload_bar]; unfold freePay; rw [fwd_bwd]
      isplitl [Hrow]; · iexists f; iexact Hrow
      iexact HR
    · iexact HB
  · iexact Hk

/-- The copy of lane `j`: device `c`'s column product goes to row `j + 1` of the device `j + 1` places after. -/
theorem wp_copy
    {α : Type} {Q : α → sProp 𝕄} {k : PUnit → Prog (TpuEff nD τ sig (Elt F) Λ₀ .tc) α}
    (n : Dev nD) (hn : n = fwd j c) {hsc : (rowM j.succ : Memref sig (Dev.tc n : Thread nD τ).2.kind .vmem S1x512 .bf16).view.ref.isScScratch = false}
    {hsrc : (rowM 0).view.WordExact} {hdst : (rowM j.succ).view.WordExact}
    {hsem : DmaTarget.Typed .vmem (.dma (recvS j)) (.remote (Dev.tc n : Thread nD τ) (rowM j.succ) (.dma (sendS j)) hsc)}
    (f : Buf (Elt F) ((fwd j c : Thread nD τ).loc cc0_scratch0)) (O : CellTallies nD τ sig Unit) (W : Waits sig Unit) :
    iprop(laneFacts m ρ K c j ∗ rowPts c 0 (part j) (spread (tot m ρ c)) ∗ rowPts (fwd j c) j.succ fullShare f
        ∗ owes (c : Thread nD τ) (O + tallyAt (recvCell j (fwd j c)) () N) W
        ∗ dutyTok EX (sendCell j c) 0 0 ∗ dutyTok EX (recvCell j (fwd j c)) 0 0)
      ⊢ iprop(((cred (tallyAt (sendCell j c) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0) (.remote (Dev.tc n : Thread nD τ) (rowM j.succ) (.dma (sendS j)) hsc) (.dma (recvS j)) hsrc hdst hsem) k) Q) := by
  subst hn
  unfold laneFacts
  iintro ⟨⟨-, #HIs, -, #HIr, -, #Hs, -, #Hr⟩, Hsrc, Hdst, HO, Hts, Htr⟩ Hk
  iapply (Rounds.wp_send_pointsTo 𝒱₀ EX (sched m ρ) (c : Thread nD τ) none (c' := (fwd j c : Thread nD τ)) (sp' := .vmem) (κ₁ := K (c, some (false, j))) (κ₂ := K (fwd j c, some (true, j)))
    (src := rowM 0) (dst := rowM j.succ) (fs := spread (tot m ρ c)) (q := part j)
    (r₁ := 0) (r₂ := 0) (d₁ := 0) (d₂ := 0) (fd := f)
    (by rw [duties_send]; exact Finset.mem_singleton_self _) (by rw [duties_recv]; exact Finset.mem_singleton_self _)
    () () N rfl (amount_send m ρ c j 0) (amount_recv m ρ (fwd j c) j 0) O rfl (W := W)
    (by rw [payload_send, rowM_set]; exact BI.Entails.refl _)
    (by
      rw [payload_recv, rowM_set]
      unfold gotPay
      rw [bwd_fwd]
      exact Entails.of_eq (rowPts_congr (fwd j c) j.succ fullShare _ _ (copy_row (tot m ρ c) j.succ 0 f)))) $$ [Hsrc Hdst HO Hts Htr]
  · isplitr; · iexact HIs
    isplitr; · iexact HIr
    isplitl [Hsrc]; · iapply (Entails.of_eq (show rowPts c 0 (part j) (spread (tot m ρ c)) = _ by rw [rowM_set]; rfl)); iexact Hsrc
    isplitl [Hdst]; · iapply (Entails.of_eq (show rowPts (fwd j c) j.succ fullShare f = _ by rw [rowM_set]; rfl)); iexact Hdst
    isplitl [HO]; · iexact HO
    isplitl [Hts]; · iexact Hts
    isplitr; · iexact Hs
    isplitl [Htr]; · iexact Htr
    iexact Hr
  · iexact Hk

/-- The wait for the copy of lane `j` to have left: the part of row 0 it read comes back. -/
theorem wp_sent
    {α : Type} {Q : α → sProp 𝕄} {k : PUnit → Prog (TpuEff nD τ sig (Elt F) Λ₀ .tc) α}
    {src dst : Memref sig .tc .vmem S1x512 .bf16} {h1 : src.view.WordExact} {h2 : dst.view.WordExact}
    (hN : dst.view.dmaCredit = N) (W : Waits sig Unit) :
    iprop(laneFacts m ρ K c j ∗ cred (tallyAt (sendCell j c) () N) ∗ owes (c : Thread nD τ) 0 W ∗ atPos EX (sendCell j c) 0 ∅ 0)
      ⊢ iprop(((owes (c : Thread nD τ) 0 (insert (SemLoc.dma (sendS j), ()) W) ∗ atPos EX (sendCell j c) 1 ∅ 0 ∗ rowPts c 0 (part j) (spread (tot m ρ c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst h1 h2) k) Q) := by
  unfold laneFacts
  iintro ⟨⟨-, #HI, -⟩, Hc, HO, Hat⟩ Hk
  iapply (Rounds.wp_wait_rest_token 𝒱₀ EX (sched m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (round_send m ρ c j)) $$ Hpay
  iapply Hk
  isplitl [HO]; · iexact HO
  isplitl [Hat]; · iexact Hat
  unfold sentPay; iexact Hp

/-- The wait for the copy coming in on lane `j`: row `j + 1` with the sender's column product. -/
theorem wp_got
    {α : Type} {Q : α → sProp 𝕄} {k : PUnit → Prog (TpuEff nD τ sig (Elt F) Λ₀ .tc) α}
    {src dst : Memref sig .tc .vmem S1x512 .bf16} {h1 : src.view.WordExact} {h2 : dst.view.WordExact}
    (hN : dst.view.dmaCredit = N) (W : Waits sig Unit) :
    iprop(laneFacts m ρ K c j ∗ cred (tallyAt (recvCell j c) () N) ∗ owes (c : Thread nD τ) 0 W ∗ atPos EX (recvCell j c) 0 ∅ 0)
      ⊢ iprop(((owes (c : Thread nD τ) 0 (insert (SemLoc.dma (recvS j), ()) W) ∗ atPos EX (recvCell j c) 1 ∅ 0
              ∗ rowPts c j.succ fullShare (spread (tot m ρ (bwd j c))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst h1 h2) k) Q) := by
  unfold laneFacts
  iintro ⟨⟨-, -, #HI, -⟩, Hc, HO, Hat⟩ Hk
  iapply (Rounds.wp_wait_rest_token 𝒱₀ EX (sched m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (round_recv m ρ c j)) $$ Hpay
  iapply Hk
  isplitl [HO]; · iexact HO
  isplitl [Hat]; · iexact Hat
  unfold gotPay; iexact Hp

/-- The wait for the three signals: the rows the device's copies write. -/
theorem wp_ready
    {α : Type} {Q : α → sProp 𝕄} {k : PUnit → Prog (TpuEff nD τ sig (Elt F) Λ₀ .tc) α}
    (W : Waits sig Unit) :
    iprop(cellInv EX (sched m ρ) (K (c, none)) (barCell c) ∗ levAts L lv ∗ cred (tallyAt (barCell c) () 3)
        ∗ owes (c : Thread nD τ) (owed₀ c) W ∗ atPos EX (barCell c) 0 ∅ 0)
      ⊢ iprop(((owes (c : Thread nD τ) (owed₀ c) (insert (SemLoc.reg barS, ()) W) ∗ atPos EX (barCell c) 1 ∅ 0 ∗ freePay c 0 ∗ freePay c 1 ∗ freePay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  iintro ⟨#HI, #Hlev, Hc, HO, Hat⟩ Hk
  iapply (Rounds.wp_wait_rest_token 𝒱₀ EX (sched m ρ) (c : Thread nD τ) none (κ := K (c, none))
      (wpE_semWait_eq 𝒱₀ (c : Thread nD τ) none Set.univ) (Set.mem_univ _) () (O := owed₀ c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (round_bar m ρ c)) $$ Hpay
  iapply Hk
  isplitl [HO]; · iexact HO
  isplitl [Hat]; · iexact Hat
  iexact Hp

end Rules

/-- The two semaphores of lane `j` at the end of their round close at zero. -/
theorem lane_close (c : Dev nD) (j : Fin 3) :
    iprop(laneFacts m ρ K c j ∗ atPos EX (sendCell j c) 1 ∅ 0 ∗ atPos EX (recvCell j c) 1 ∅ 0)
      ⊢ (|={Set.univ}=> iprop(semVal (sendCell j c) 0 ∗ semVal (recvCell j c) 0) : sProp 𝕄) := by
  unfold laneFacts
  iintro ⟨⟨-, #HIs, #HIr, -⟩, Hs, Hr⟩
  imod (Rounds.cell_close EX (sched m ρ) (Set.mem_univ (K (c, some (false, j)))) (fun h => h) (R := 1) (duties_after m ρ (sendCell j c))) $$ [Hs] with Hzs
  · isplitr; · iexact HIs
    iexact Hs
  imod (Rounds.cell_close EX (sched m ρ) (Set.mem_univ (K (c, some (true, j)))) (fun h => h) (R := 1) (duties_after m ρ (recvCell j c))) $$ [Hr] with Hzr
  · isplitr; · iexact HIr
    iexact Hr
  imodintro
  isplitl [Hzs] <;> iassumption

end Cert.Scan

end
-- ==== Proof.Body.lean ====
/-
# One block

What one device's run of the body does, from its block of the argument and its part of the exchange to its block of the
result.
-/
module

public import proofs.«01_k».proof.Proof.Steps
public import proofs.«01_k».proof.Proof.Gen.KernelIdeal.Points

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The result, and the launch's data -/

/-- A device's place on the axis, as the body computes it. -/
def place (c : Dev nD) : BitVec 32 := Scalar.remsi (Scalar.divsi (Dev.word c) 1#32) 4#32

/-- The result from a device's block `x` and the column products `t₀ t₁ t₂` of the devices one, two and three places
    before it. -/
def outOf (c : Dev nD) (x : Vec F S512x512 .bf16) (t₀ t₁ t₂ : Vec F S1x1x512 .bf16) : Vec F S512x512 .bf16 :=
  k0_pay9 (place c) (k0_pay5 (k0_pay1 x) k0_pay3 (k0_pay4 (k0_pay1 x)))
    (k0_pay8 (place c) (k0_pay7 (place c) k0_pay6 t₀) t₁) t₂

/-- Device `c`'s block of the result. -/
def outAt (c : Dev nD) : (cc0_stg1_0 : Ref sig .tc).ty.Contents (Elt F) :=
  outOf c (xblk m ρ c) (tot m ρ (bwd 0 c)) (tot m ρ (bwd 1 c)) (tot m ρ (bwd 2 c))

/-- What device `c`'s body starts from: its ghost state at some names, the credits of its four waits on others, and the
    order of the waits. -/
def start (c : Dev nD) : sProp 𝕄 :=
  iprop((∃ K, ghost m ρ K c)
    ∗ (cred (tallyAt (barCell c) () 3) ∗ cred (tallyAt (recvCell 0 c) () N) ∗ cred (tallyAt (recvCell 1 c) () N) ∗ cred (tallyAt (recvCell 2 c) () N))
    ∗ levAts L lv)

/-- What the body starts from: its ghost state, and the exchange buffer at some contents. -/
def Φ₀ (c : Dev nD) : sProp 𝕄 := iprop(start m ρ c ∗ ∃ f, bufPts c f)
/-- What the body leaves: the exchange buffer at some contents, and its seven semaphores at zero. -/
def Φ₁ (c : Dev nD) : sProp 𝕄 :=
  iprop((∃ f, bufPts (F := F) c f) ∗ semVal (barCell c) 0 ∗ (semVal (sendCell 0 c) 0 ∗ semVal (recvCell 0 c) 0)
    ∗ (semVal (sendCell 1 c) 0 ∗ semVal (recvCell 1 c) 0) ∗ semVal (sendCell 2 c) 0 ∗ semVal (recvCell 2 c) 0)

/-- The proof data of the one call: the arrays at launch, the staged blocks, what the body starts from and what it leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owes₃ c
    | ⟨_ + 1, _⟩ => 0

/-- The one grid point. -/
abbrev t₀ : Fin cfg0.N := t0_0

omit [FloatOps F] in
/-- Holding a whole buffer at the contents `X`, in terms of its points-to. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body
variable (K : Dev nD × Cell → ℕ)

/-- A whole buffer of device `c` at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The whole of a block, as a rectangle. -/
abbrev wholeR : Rect S512x512 := Rect.unit (s := S512x512) ![0, 0] S512x512.size inb_S512x512_S512x512_0_0

/-- The rectangle starts at the origin. -/
theorem offs_zero : (![0, 0] : Fin 2 → Nat) = fun _ => 0 := funext fun a => by fin_cases a <;> rfl

omit [FloatOps F] in
/-- A load of the whole staged block gives the block. -/
theorem load_x (f : (cc0_stg0_0 : Ref sig .tc).ty.Contents (Elt F)) :
    (Memref.whole cc0_stg0_0 : Memref sig .tc .vmem S512x512 .bf16).view.readAt (Elt F) wholeR.toLoadRect f = f :=
  Memref.readAt_unit_zero (Elt F) cc0_stg0_0 offs_zero _ _
omit [FloatOps F] in
/-- A store over the whole staged result leaves what was stored. -/
theorem store_out (f w : (cc0_stg1_0 : Ref sig .tc).ty.Contents (Elt F)) :
    ((Memref.whole cc0_stg1_0 : Memref sig .tc .vmem S512x512 .bf16).access wholeR : View sig .tc _ _ _).write (Elt F) f w Finset.univ = w :=
  Memref.write_access_unit_zero_univ (Elt F) cc0_stg1_0 offs_zero _ f w

/-- What the body is run from. -/
def bodyPre (c : Dev nD) : sProp 𝕄 :=
  iprop((ghost m ρ K c
      ∗ (cred (tallyAt (barCell c) () 3) ∗ cred (tallyAt (recvCell 0 c) () N) ∗ cred (tallyAt (recvCell 1 c) () N) ∗ cred (tallyAt (recvCell 2 c) () N))
      ∗ levAts L lv ∗ ∃ f, bufPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the body ends with. -/
def bodyPost (c : Dev nD) : sProp 𝕄 :=
  iprop(Φ₁ c ∗ (dats m ρ 0 c).owesAt () t₀.succ ∗ stg c cc0_stg0_0 (xblk m ρ c) ∗ stg c cc0_stg1_0 (outAt m ρ c))

set_option maxHeartbeats 1600000 in
set_option maxRecDepth 8000 in
/-- The body runs from the one to the other. -/
theorem body_runs (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost laneOwn
  iintro ⟨⟨⟨⟨⟨#HIbar, #HL0, #HL1, #HL2⟩, HatB, ⟨⟨HaS0, HaR0⟩, HtB0, HtS0, HtR0⟩, ⟨⟨HaS1, HaR1⟩, HtB1, HtS1, HtR1⟩, ⟨⟨HaS2, HaR2⟩, HtB2, HtS2, HtR2⟩⟩,
    ⟨HcB, Hc0, Hc1, Hc2⟩, #Hlev, ⟨%f0, Hbuf⟩⟩, Ho, ⟨%d0, %g0, %hg0, Hx⟩, ⟨%d1, %g1, %hg1, Hout⟩⟩, Hk⟩
  have hx : g0 = xblk m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = owes₃ c from rfl]
  ihave Hrows := (Entails.of_eq (rows_split c f0)) $$ Hbuf
  icases Hrows with ⟨Hr0, Hr1, Hr2, Hr3⟩
  -- the three signals
  unfold owes₃
  iapply (wp_free m ρ K c 2 _ (sig0_eq c) f0 (owes₂ c) W) $$ [HO HtB2 Hr3]
  · isplitr; · iexact HL2
    isplitl [HO]; · iexact HO
    isplitl [HtB2]; · iexact HtB2
    iexact Hr3
  iintro HO
  unfold owes₂
  iapply (wp_free m ρ K c 1 _ (sig1_eq c) f0 (owes₁ c) W) $$ [HO HtB1 Hr2]
  · isplitr; · iexact HL1
    isplitl [HO]; · iexact HO
    isplitl [HtB1]; · iexact HtB1
    iexact Hr2
  iintro HO
  unfold owes₁
  iapply (wp_free m ρ K c 0 _ (sig2_eq c) f0 (owed₀ c) W) $$ [HO HtB0 Hr1]
  · isplitr; · iexact HL0
    isplitl [HO]; · iexact HO
    isplitl [HtB0]; · iexact HtB0
    iexact Hr1
  iintro HO
  -- the block, and its column product into row 0
  iapply (wp_load 𝒱₀ (c : Thread nD τ) none Set.univ (m := Memref.whole cc0_stg0_0) (Finset.subset_univ _)) $$ Hx; iintro Hx
  rw [load_x]
  iapply (wp_peek_row c 0 f0) $$ Hr0; iintro Hr0
  iapply (wp_store_row c 0 (tot m ρ c) f0) $$ Hr0; iintro Hr0
  -- the rows of the others are free
  iapply (wp_ready m ρ K c W) $$ [HcB HO HatB]
  · isplitr; · iexact HIbar
    isplitr; · iexact Hlev
    isplitl [HcB]; · iexact HcB
    isplitl [HO] <;> iassumption
  iintro ⟨HO, HatB, Hf0, Hf1, Hf2⟩
  unfold freePay
  icases Hf0 with ⟨⟨%u0, Hf0⟩, -⟩
  icases Hf1 with ⟨⟨%u1, Hf1⟩, -⟩
  icases Hf2 with ⟨⟨%u2, Hf2⟩, -⟩
  -- the three copies
  ihave Hparts := (rowPts_parts c 0 (spread (tot m ρ c))).1 $$ Hr0
  icases Hparts with ⟨Hp0, Hp1, Hp2⟩
  unfold owed₀
  iapply (wp_copy m ρ K c 0 _ (copy0_eq c) u0 (owed₁ c) _) $$ [HO Hp0 Hf0 HtS0 HtR0]
  · isplitr; · iexact HL0
    isplitl [Hp0]; · iexact Hp0
    isplitl [Hf0]; · iexact Hf0
    isplitl [HO]; · iexact HO
    isplitl [HtS0] <;> iassumption
  iintro ⟨Hs0, HO⟩
  unfold owed₁
  iapply (wp_copy m ρ K c 1 _ (copy1_eq c) u1 (owed₂ c) _) $$ [HO Hp1 Hf1 HtS1 HtR1]
  · isplitr; · iexact HL1
    isplitl [Hp1]; · iexact Hp1
    isplitl [Hf1]; · iexact Hf1
    isplitl [HO]; · iexact HO
    isplitl [HtS1] <;> iassumption
  iintro ⟨Hs1, HO⟩
  unfold owed₂
  iapply (wp_copy m ρ K c 2 _ (copy2_eq c) u2 0 _) $$ [HO Hp2 Hf2 HtS2 HtR2]
  · isplitr; · iexact HL2
    isplitl [Hp2]; · iexact Hp2
    isplitl [Hf2]; · iexact Hf2
    isplitl [HO]; · iexact HO
    isplitl [HtS2] <;> iassumption
  iintro ⟨Hs2, HO⟩
  -- lane by lane: the copy has left, the copy has come, its row is read
  iapply (wp_sent m ρ K c 0 (src := rowM 1) (dst := rowM 0) rfl _) $$ [Hs0 HO HaS0]
  · isplitr; · iexact HL0
    isplitl [Hs0]; · iexact Hs0
    isplitl [HO] <;> iassumption
  iintro ⟨HO, HaS0, Hp0⟩
  iapply (wp_got m ρ K c 0 (src := rowM 0) (dst := rowM 1) rfl _) $$ [Hc0 HO HaR0]
  · isplitr; · iexact HL0
    isplitl [Hc0]; · iexact Hc0
    isplitl [HO] <;> iassumption
  iintro ⟨HO, HaR0, Hr1⟩
  iapply (wp_load_row c 1 (tot m ρ (bwd 0 c))) $$ [Hr1]
  · iexact Hr1
  iintro Hr1
  iapply (wp_sent m ρ K c 1 (src := rowM 2) (dst := rowM 0) rfl _) $$ [Hs1 HO HaS1]
  · isplitr; · iexact HL1
    isplitl [Hs1]; · iexact Hs1
    isplitl [HO] <;> iassumption
  iintro ⟨HO, HaS1, Hp1⟩
  iapply (wp_got m ρ K c 1 (src := rowM 0) (dst := rowM 2) rfl _) $$ [Hc1 HO HaR1]
  · isplitr; · iexact HL1
    isplitl [Hc1]; · iexact Hc1
    isplitl [HO] <;> iassumption
  iintro ⟨HO, HaR1, Hr2⟩
  iapply (wp_load_row c 2 (tot m ρ (bwd 1 c))) $$ [Hr2]
  · iexact Hr2
  iintro Hr2
  iapply (wp_sent m ρ K c 2 (src := rowM 3) (dst := rowM 0) rfl _) $$ [Hs2 HO HaS2]
  · isplitr; · iexact HL2
    isplitl [Hs2]; · iexact Hs2
    isplitl [HO] <;> iassumption
  iintro ⟨HO, HaS2, Hp2⟩
  iapply (wp_got m ρ K c 2 (src := rowM 0) (dst := rowM 3) rfl _) $$ [Hc2 HO HaR2]
  · isplitr; · iexact HL2
    isplitl [Hc2]; · iexact Hc2
    isplitl [HO] <;> iassumption
  iintro ⟨HO, HaR2, Hr3⟩
  iapply (wp_load_row c 3 (tot m ρ (bwd 2 c))) $$ [Hr3]
  · iexact Hr3
  iintro Hr3
  -- the seven semaphores close
  imod (Rounds.cell_close EX (sched m ρ) (Set.mem_univ (K (c, none))) (fun h => h) (R := 1) (duties_after m ρ (barCell c))) $$ [HatB] with HzB
  · isplitr; · iexact HIbar
    iexact HatB
  imod (lane_close m ρ K c 0) $$ [HaS0 HaR0] with Hz0
  · isplitr; · iexact HL0
    isplitl [HaS0] <;> iassumption
  imod (lane_close m ρ K c 1) $$ [HaS1 HaR1] with Hz1
  · isplitr; · iexact HL1
    isplitl [HaS1] <;> iassumption
  imod (lane_close m ρ K c 2) $$ [HaS2 HaR2] with Hz2
  · isplitr; · iexact HL2
    isplitl [HaS2] <;> iassumption
  -- the result
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0) (r := wholeR) (Mk := Finset.univ) (Finset.subset_univ _)) $$ Hout
  iintro Hout
  rw [store_out, wp_ret]; imodintro
  iapply Hk
  unfold bodyPost Φ₁ Dat.owesAt Pipeline.owesWithin
  rw [show (dats m ρ 0 c).owed t₀.succ = 0 from rfl]
  isplitl [Hp0 Hp1 Hp2 Hr1 Hr2 Hr3 HzB Hz0 Hz1 Hz2]
  · isplitl [Hp0 Hp1 Hp2 Hr1 Hr2 Hr3]
    · iapply (rows_join c (spread (tot m ρ c)) (spread (tot m ρ (bwd 0 c))) (spread (tot m ρ (bwd 1 c))) (spread (tot m ρ (bwd 2 c))))
      isplitl [Hp0 Hp1 Hp2]
      · iapply (rowPts_parts c 0 (spread (tot m ρ c))).2
        isplitl [Hp0]; · iexact Hp0
        isplitl [Hp1] <;> iassumption
      isplitl [Hr1]; · iexact Hr1
      isplitl [Hr2] <;> iassumption
    isplitl [HzB]; · iexact HzB
    isplitl [Hz0]; · iexact Hz0
    isplitl [Hz1] <;> iassumption
  isplitl [HO]
  · iexists (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- What the launch hands to the body. -/
def bodyStart (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body does on device `c` what the launch asks of it. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  show bodyStart m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyStart Φ₀ start
  iintro ⟨⟨⟨⟨%K, Hg⟩, Hc, Hl⟩, Hbuf⟩, Ho, Hx, Hout⟩
  iapply (body_runs m ρ K c fun _ => bodyPost m ρ c)
  unfold bodyPre
  isplitr []
  · isplitl [Hg Hc Hl Hbuf]
    · isplitl [Hg]; · iexact Hg
      isplitl [Hc]; · iexact Hc
      isplitl [Hl] <;> iassumption
    isplitl [Ho]; · iexact Ho
    isplitl [Hx] <;> iassumption
  · iintro H; iexact H

end Body

end Cert.Scan

end
-- ==== Proof.Deal.lean ====
/-
# Dealing out the exchange

At launch every semaphore's round state and duties lie together. They are dealt so that each device holds what its body
starts from: its places, the duties it pays on the three lanes, and the credits of what the others owe it.
-/
module

public import proofs.«01_k».proof.Proof.Body

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and duties, listed -/

/-- Reading the kind and lane off a named semaphore gives its name back. -/
theorem laneOf_cell (k : Cell) : laneOf (cellSem k) = k := by
  rcases k with _ | ⟨_ | _, j⟩
  · exact laneOf_bar
  · exact laneOf_send j
  · exact laneOf_recv j

/-- Different devices or names, different semaphores. -/
theorem cellAt_injective : Function.Injective (cellAt : Dev nD × Cell → GSem nD τ sig) := by
  rintro ⟨c, k⟩ ⟨c', k'⟩ h
  have hc : c = c' := congrArg (fun g : GSem nD τ sig => g.1.1) h
  have hk : k = k' := by
    rw [← laneOf_cell k, ← laneOf_cell k']
    exact congrArg (fun g : GSem nD τ sig => laneOf g.2) h
  rw [hc, hk]

/-- Every semaphore of the exchange. -/
def cellSet : Finset (GSem nD τ sig) := Finset.univ.map ⟨cellAt, cellAt_injective⟩

/-- Lane `j`'s three duties at device `c`: the barrier's (`none`), the send's and the receive's. -/
abbrev dutyAt (x : Dev nD × Fin 3 × Option Bool) : GSem nD τ sig × ℕ × Fin 3 :=
  (cellAt (x.1, x.2.2.map fun b => (b, x.2.1)), 0, if x.2.2 = none then x.2.1 else 0)

/-- Different devices, lanes or kinds, different duties. -/
theorem dutyAt_injective : Function.Injective dutyAt := by
  rintro ⟨c, j, b⟩ ⟨c', j', b'⟩ h
  have h1 := cellAt_injective (congrArg (fun x : GSem nD τ sig × ℕ × Fin 3 => x.1) h)
  have h2 : (if b = none then j else 0) = (if b' = none then j' else 0) := congrArg (fun x : GSem nD τ sig × ℕ × Fin 3 => x.2.2) h
  obtain ⟨rfl, h3⟩ := Prod.mk.inj h1
  rcases b with _ | b <;> rcases b' with _ | b'
  · simp at h2; rw [h2]
  · simp at h3
  · simp at h3
  · simp at h3; rw [h3.1, h3.2]

/-- Every duty of the exchange. -/
def dutySet : Finset (GSem nD τ sig × ℕ × Fin 3) := Finset.univ.map ⟨dutyAt, dutyAt_injective⟩

omit [FloatOps F] in
/-- A resource for each of a device's seven semaphores, written out. -/
theorem bigSep_cell (Φ : Cell → sProp 𝕄) : bigSep Finset.univ Φ
    = iprop(Φ none ∗ Φ (some (false, 0)) ∗ Φ (some (true, 0)) ∗ Φ (some (false, 1)) ∗ Φ (some (true, 1)) ∗ Φ (some (false, 2)) ∗ Φ (some (true, 2))) :=
  bigSep_univ_eq_bigSepL [none, some (false, 0), some (true, 0), some (false, 1), some (true, 1), some (false, 2), some (true, 2)] (by decide) (by decide) Φ
omit [FloatOps F] in
/-- A resource for each of a lane's three semaphores, written out. -/
theorem bigSep_kind (Φ : Option Bool → sProp 𝕄) : bigSep Finset.univ Φ = iprop(Φ none ∗ Φ (some false) ∗ Φ (some true)) :=
  bigSep_univ_eq_bigSepL [none, some false, some true] (by decide) (by decide) Φ

/-! ## What the launch deals, and to whom -/

/-- The ghost state at launch: the pipeline's semaphores and duties, and the exchange's. -/
def u₀ : UU := (initOf (Pipeline.cells cfgs cellOf_inj) (Pipeline.launchToks cfgs cellOf_inj), initOf cellSet dutySet)

/-- The duties of lane `j`'s three semaphores at device `c`. -/
def dutiesOf (c : Dev nD) (j : Fin 3) : sProp 𝕄 :=
  iprop(dutyTok EX (barCell c) 0 j ∗ dutyTok EX (sendCell j c) 0 0 ∗ dutyTok EX (recvCell j c) 0 0)
/-- The duties device `c` pays on lane `j`. -/
def dutiesBy (c : Dev nD) (j : Fin 3) : sProp 𝕄 :=
  iprop(dutyTok EX (barCell (bwd j c)) 0 j ∗ dutyTok EX (sendCell j c) 0 0 ∗ dutyTok EX (recvCell j (fwd j c)) 0 0)

/-- A device's share as it comes from the launch. -/
def G (c : Dev nD) : sProp 𝕄 :=
  iprop((bigSep Finset.univ fun k : Cell => roundState EX (sched m ρ) (cellAt (c, k)) 0)
    ∗ (bigSep Finset.univ fun k : Cell => iprop(atPos EX (cellAt (c, k)) 0 ∅ 0 ∗ reached EX (cellAt (c, k)) 0))
    ∗ bigSep Finset.univ (dutiesOf c))

/-- A device's share once dealt. -/
def G' (c : Dev nD) : sProp 𝕄 := iprop(∃ K, ghost m ρ K c)

/-- The launch element gives every device its share. -/
theorem fund_all : BI.own (EX (initOf cellSet dutySet)) ⊢ (|==> bigSep Finset.univ (G m ρ) : sProp 𝕄) := by
  have hC (Φ : GSem nD τ sig → sProp 𝕄) : bigSep cellSet Φ = bigSep Finset.univ fun c : Dev nD => bigSep Finset.univ fun k : Cell => Φ (cellAt (c, k)) := by
    unfold cellSet; rw [bigSep_map, bigSep_univ_prod]; rfl
  have hD : bigSep dutySet (fun x => (dutyTok EX x.1 x.2.1 x.2.2 : sProp 𝕄)) = bigSep Finset.univ fun c : Dev nD => bigSep Finset.univ (dutiesOf c) := by
    unfold dutySet; rw [bigSep_map, bigSep_univ_prod]
    refine bigSep_congr fun c _ => ?_
    rw [bigSep_univ_prod]
    refine bigSep_congr fun j _ => ?_
    rw [bigSep_kind]; rfl
  iintro HX
  imod (Rounds.fund EX (sched m ρ) cellSet dutySet) $$ HX with ⟨Hst, Hr, Hat, Htok⟩
  imodintro
  ihave Hst' := (Entails.of_eq (hC fun g => roundState EX (sched m ρ) g 0)) $$ Hst
  ihave Hat' := (Entails.of_eq (hC fun g => atPos EX g 0 ∅ 0)) $$ Hat
  ihave Hr' := (Entails.of_eq (hC fun g => reached EX g 0)) $$ Hr
  ihave Htok' := (Entails.of_eq hD) $$ Htok
  unfold G; simp only [bigSep_sep']
  isplitl [Hst']; · iexact Hst'
  isplitl [Hat' Hr']
  · isplitl [Hat'] <;> iassumption
  iexact Htok'

/-! ## The counters -/

/-- The kernel's own six semaphores. -/
abbrev osem : Bool × Fin 3 → SemLoc sig := fun k => cellSem (some k)

/-- The call's own semaphores are the six of its two arrays, and none is a staging semaphore. -/
theorem ownSemFacts : Pipeline.OwnSemFacts cfg0.spec osem := by decide

omit [FloatOps F] in
/-- The call's own semaphores at zero, written out. -/
theorem own_counters (c : Dev nD) : (Pipeline.ownSems0 (Ix := Unit) (Name := ℕ) (U := UU) (Lvl := ℕ) (Val := Elt F) (τ := τ) osem c : sProp 𝕄)
    = iprop(semVal (sendCell 0 c) 0 ∗ semVal (recvCell 0 c) 0 ∗ semVal (sendCell 1 c) 0 ∗ semVal (recvCell 1 c) 0
        ∗ semVal (sendCell 2 c) 0 ∗ semVal (recvCell 2 c) 0) := by
  rw [Pipeline.ownSems0_eq_of_list c osem [(false, 0), (true, 0), (false, 1), (true, 1), (false, 2), (true, 2)] (by decide) (by decide)]; rfl
omit [FloatOps F] in
/-- The one semaphore that outlives the call is the barrier. -/
theorem bar_counter (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the seven semaphores of the exchange, at zero. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cellAt (c, k)) 0 : sProp 𝕄) := by
  rw [own_counters, bar_counter, bigSep_cell]
  exact BI.sep_comm

/-- Device `c`'s counters and round states become its invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv EX (sched m ρ) κ (cellAt (c, k))))
          ∗ (bigSep Finset.univ fun k : Cell => iprop(atPos EX (cellAt (c, k)) 0 ∅ 0 ∗ reached EX (cellAt (c, k)) 0)) ∗ bigSep Finset.univ (dutiesOf c)) := by
  unfold G
  iintro ⟨Hos, Hus, Hst, Hat, Htok⟩
  ihave Hv := (counters (F := F) c) $$ [Hos Hus]
  · isplitl [Hos] <;> iassumption
  imod (show iprop((bigSep Finset.univ fun k : Cell => semVal (cellAt (c, k)) 0) ∗ bigSep Finset.univ fun k : Cell => roundState EX (sched m ρ) (cellAt (c, k)) 0)
      ⊢ (|={Set.univ}=> bigSep Finset.univ fun k : Cell => iprop(∃ κ : ℕ, cellInv EX (sched m ρ) κ (cellAt (c, k))) : sProp 𝕄) from by
        rw [← bigSep_sep']
        exact (bigSep_mono fun k _ => (Rounds.body_intro EX (sched m ρ) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The shared facts and the dealing -/

/-- Every invariant and every begun round, shared by all devices. -/
def shared (K : Dev nD × Cell → ℕ) : sProp 𝕄 :=
  iprop((bigSep Finset.univ fun ck : Dev nD × Cell => cellInv EX (sched m ρ) (K ck) (cellAt ck))
    ∗ bigSep Finset.univ fun ck : Dev nD × Cell => reached EX (cellAt ck) 0)

/-- What is shared may be used any number of times. -/
instance shared_persistent (K : Dev nD × Cell → ℕ) : BI.Persistent (shared m ρ K) := by unfold shared; infer_instance

/-- It holds every semaphore's invariant, -/
theorem shared_inv (K : Dev nD × Cell → ℕ) (ck : Dev nD × Cell) : shared m ρ K ⊢ cellInv EX (sched m ρ) (K ck) (cellAt ck) := by
  have h : (bigSep Finset.univ fun ck : Dev nD × Cell => (cellInv EX (sched m ρ) (K ck) (cellAt ck) : sProp 𝕄))
      ⊢ cellInv EX (sched m ρ) (K ck) (cellAt ck) := bigSep_elim (Finset.mem_univ ck)
  unfold shared
  iintro ⟨H, -⟩
  iapply h; iexact H
/-- and that every semaphore's first round has begun, -/
theorem shared_reached (K : Dev nD × Cell → ℕ) (ck : Dev nD × Cell) : shared m ρ K ⊢ reached EX (cellAt ck) 0 := by
  have h : (bigSep Finset.univ fun ck : Dev nD × Cell => (reached EX (cellAt ck) 0 : sProp 𝕄)) ⊢ reached EX (cellAt ck) 0 :=
    bigSep_elim (Finset.mem_univ ck)
  unfold shared
  iintro ⟨-, H⟩
  iapply h; iexact H

/-- so all the shared facts of a lane. -/
theorem shared_lane (K : Dev nD × Cell → ℕ) (c : Dev nD) (j : Fin 3) : shared m ρ K ⊢ laneFacts m ρ K c j := by
  unfold laneFacts
  iintro #H
  isplitr; · iapply (shared_inv m ρ K (bwd j c, none)); iexact H
  isplitr; · iapply (shared_inv m ρ K (c, some (false, j))); iexact H
  isplitr; · iapply (shared_inv m ρ K (c, some (true, j))); iexact H
  isplitr; · iapply (shared_inv m ρ K (fwd j c, some (true, j))); iexact H
  isplitr; · iapply (shared_reached m ρ K (bwd j c, none)); iexact H
  isplitr; · iapply (shared_reached m ρ K (c, some (false, j))); iexact H
  isplitr; · iapply (shared_reached m ρ K (c, some (true, j))); iexact H
  iapply (shared_reached m ρ K (fwd j c, some (true, j))); iexact H

/-- What stays with device `c` alone: its places, and the duties it pays. -/
def alone (c : Dev nD) : sProp 𝕄 :=
  iprop((bigSep Finset.univ fun k : Cell => atPos EX (cellAt (c, k)) 0 ∅ 0) ∗ bigSep Finset.univ (dutiesBy c))

/-- What is shared and what is a device's alone make its ghost state. -/
theorem ghost_intro (K : Dev nD × Cell → ℕ) (c : Dev nD) : iprop(shared m ρ K ∗ alone c) ⊢ G' m ρ c := by
  unfold alone G' ghost laneOwn
  rw [bigSep_cell, Ring.bigSep_fin3]
  unfold dutiesBy
  iintro ⟨#H, ⟨HB, HS0, HR0, HS1, HR1, HS2, HR2⟩, HD0, HD1, HD2⟩
  iexists K
  isplitr
  · isplitr; · iapply (shared_inv m ρ K (c, none)); iexact H
    isplitr; · iapply (shared_lane m ρ K c 0); iexact H
    isplitr; · iapply (shared_lane m ρ K c 1); iexact H
    iapply (shared_lane m ρ K c 2); iexact H
  isplitl [HB]; · iexact HB
  isplitl [HS0 HR0 HD0]
  · isplitl [HS0 HR0]
    · isplitl [HS0] <;> iassumption
    iexact HD0
  isplitl [HS1 HR1 HD1]
  · isplitl [HS1 HR1]
    · isplitl [HS1] <;> iassumption
    iexact HD1
  isplitl [HS2 HR2]
  · isplitl [HS2] <;> iassumption
  iexact HD2

omit [FloatOps F] in
/-- On one lane the duties of all devices are the duties paid by all devices. -/
theorem deal_lane (j : Fin 3) :
    (bigSep Finset.univ fun c : Dev nD => (dutiesOf c j : sProp 𝕄)) = bigSep Finset.univ fun c : Dev nD => dutiesBy c j := by
  unfold dutiesOf dutiesBy
  rw [bigSep_sep', bigSep_sep', bigSep_sep', bigSep_sep',
    bigSep_univ_equiv (turn j).symm (fun c : Dev nD => (dutyTok EX (barCell c) 0 j : sProp 𝕄)),
    bigSep_univ_equiv (turn j) (fun c : Dev nD => (dutyTok EX (recvCell j c) 0 0 : sProp 𝕄))]
  rfl

omit [FloatOps F] in
/-- The duties of all devices are dealt to those who pay them. -/
theorem deal_all :
    (bigSep Finset.univ fun c : Dev nD => (bigSep Finset.univ (dutiesOf c) : sProp 𝕄)) = bigSep Finset.univ fun c : Dev nD => bigSep Finset.univ (dutiesBy c) := by
  have h (Φ : Dev nD → Fin 3 → sProp 𝕄) : (bigSep Finset.univ fun c : Dev nD => bigSep Finset.univ (Φ c))
      = iprop((bigSep Finset.univ fun c => Φ c 0) ∗ (bigSep Finset.univ fun c => Φ c 1) ∗ (bigSep Finset.univ fun c => Φ c 2)) := by
    rw [← bigSep_sep', ← bigSep_sep']
    exact bigSep_congr fun c _ => Ring.bigSep_fin3 _
  rw [h, h, deal_lane, deal_lane, deal_lane]

/-- The state that launch makes, semaphore by semaphore, is the devices' states. -/
theorem regroup :
    (bigSep Finset.univ fun c : Dev nD => iprop((bigSep Finset.univ fun k : Cell => iprop(∃ κ : ℕ, cellInv EX (sched m ρ) κ (cellAt (c, k))))
          ∗ (bigSep Finset.univ fun k : Cell => iprop(atPos EX (cellAt (c, k)) 0 ∅ 0 ∗ reached EX (cellAt (c, k)) 0)) ∗ bigSep Finset.univ (dutiesOf c)) : sProp 𝕄)
      ⊢ bigSep Finset.univ (G' m ρ) := by
  rw [bigSep_sep', bigSep_sep', ← bigSep_univ_prod (fun ck : Dev nD × Cell => iprop(∃ κ : ℕ, cellInv EX (sched m ρ) κ (cellAt ck))),
    bigSep_congr (s := Finset.univ) (fun (c : Dev nD) _ => bigSep_sep' Finset.univ (fun k : Cell => (atPos EX (cellAt (c, k)) 0 ∅ 0 : sProp 𝕄)) (fun k => reached EX (cellAt (c, k)) 0)),
    bigSep_sep', ← bigSep_univ_prod (fun ck : Dev nD × Cell => (reached EX (cellAt ck) 0 : sProp 𝕄)), deal_all]
  iintro ⟨HI, ⟨Hat, #HR⟩, Htok⟩
  ihave HK := (BI.bigSep_exists_pi Finset.univ (fun (ck : Dev nD × Cell) (κ : ℕ) => (cellInv EX (sched m ρ) κ (cellAt ck) : sProp 𝕄))) $$ HI
  icases HK with ⟨%K, #HI⟩
  ihave Hal := (Entails.of_eq (bigSep_sep' Finset.univ (fun c : Dev nD => bigSep Finset.univ fun k : Cell => (atPos EX (cellAt (c, k)) 0 ∅ 0 : sProp 𝕄))
    (fun c => bigSep Finset.univ (dutiesBy c))).symm) $$ [Hat Htok]
  · isplitl [Hat] <;> iassumption
  iapply (show iprop(shared m ρ K ∗ bigSep Finset.univ fun c : Dev nD => alone c) ⊢ bigSep Finset.univ (G' m ρ) from
    (sep_mono_left (BI.bigSep_of_persistent Finset.univ (shared m ρ K))).trans (by rw [← bigSep_sep']; exact bigSep_mono fun c _ => ghost_intro m ρ K c))
  isplitr
  · unfold shared; isplitl; · iexact HI
    iexact HR
  unfold alone; iexact Hal

/-- The whole dealing. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- A signal owed to a barrier, counted at device `c`'s. -/
theorem signal_at (j : Fin 3) (d c : Dev nD) (n : ℕ) : (tallyAt (barCell (bwd j d)) () n : CellTallies nD τ sig Unit) (barCell c) () = if d = fwd j c then n else 0 := by
  rw [tallyAt_apply]
  refine if_congr ⟨fun h => ?_, fun h => ⟨by rw [h, bwd_fwd], rfl⟩⟩ rfl rfl
  have : c = bwd j d := congrArg (fun g : GSem nD τ sig => g.1.1) h.1
  rw [this, fwd_bwd]

/-- A copy owed to a receive semaphore, counted at device `c`'s on lane `j`. -/
theorem copy_at (j j' : Fin 3) (d c : Dev nD) (n : ℕ) :
    (tallyAt (recvCell j' (fwd j' d)) () n : CellTallies nD τ sig Unit) (recvCell j c) () = if j' = j ∧ d = bwd j c then n else 0 := by
  rw [tallyAt_apply]
  refine if_congr ⟨fun h => ?_, fun h => ⟨by rw [h.1, h.2, fwd_bwd], rfl⟩⟩ rfl rfl
  have h1 := cellAt_injective (a₁ := (c, some (true, j))) (a₂ := (fwd j' d, some (true, j'))) h.1
  simp only [Prod.mk.injEq, Option.some.injEq, true_and] at h1
  exact ⟨h1.2.symm, by rw [h1.1, h1.2, bwd_fwd]⟩

/-- A copy owes nothing to a barrier, -/
theorem copy_at_bar (j : Fin 3) (d c : Dev nD) (n : ℕ) : (tallyAt (recvCell j d) () n : CellTallies nD τ sig Unit) (barCell c) () = 0 := by
  rw [tallyAt_apply, if_neg fun h => recv_ne_bar j (congrArg Prod.snd h.1).symm]
/-- and a signal nothing to a receive semaphore. -/
theorem signal_at_recv (j : Fin 3) (d c : Dev nD) (n : ℕ) : (tallyAt (barCell d) () n : CellTallies nD τ sig Unit) (recvCell j c) () = 0 := by
  rw [tallyAt_apply, if_neg fun h => recv_ne_bar j (congrArg Prod.snd h.1)]

/-- What device `d` owes the barrier of `c`: one signal for each lane on which `c` lies before it. -/
theorem owed_bar (d c : Dev nD) :
    owes₃ d (barCell c) () = (if d = fwd 0 c then 1 else 0) + (if d = fwd 1 c then 1 else 0) + (if d = fwd 2 c then 1 else 0) := by
  unfold owes₃ owes₂ owes₁ owed₀ owed₁ owed₂
  simp only [Pi.add_apply, Finsupp.add_apply, signal_at, copy_at_bar, Pi.zero_apply, Finsupp.zero_apply, Nat.zero_add, Nat.add_zero]

/-- What device `d` owes lane `j`'s receive semaphore of `c`: a row, if `d` is the lane's sender to `c`. -/
theorem owed_recv (j : Fin 3) (d c : Dev nD) : owes₃ d (recvCell j c) () = if d = bwd j c then N else 0 := by
  unfold owes₃ owes₂ owes₁ owed₀ owed₁ owed₂
  simp only [Pi.add_apply, Finsupp.add_apply, signal_at_recv, copy_at, Pi.zero_apply, Finsupp.zero_apply, Nat.zero_add, Nat.add_zero]
  fin_cases j <;> simp

/-- All devices together owe a barrier three signals. -/
theorem credit_bar (c : Dev nD) :
    tallyOn (barCell c) (launchCredit (Pipeline.owing owes₃) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]

/-- All devices together owe a receive semaphore one row. -/
theorem credit_recv (j : Fin 3) (c : Dev nD) :
    tallyOn (recvCell j c) (launchCredit (Pipeline.owing owes₃) 0 (recvCell j c)) = (tallyAt (recvCell j c) () N : CellTallies nD τ sig Unit) := by
  unfold tallyAt; refine congrArg _ (Finsupp.ext fun u => ?_); cases u
  rw [Pipeline.launchCredit_owing, Finsupp.single_eq_same, Finset.sum_congr rfl fun d _ => owed_recv j d c]
  simp only [Finset.sum_ite_eq', Finset.mem_univ, if_true]

omit [FloatOps F] in
/-- The launch's credits hold those of the barrier and of the three receive semaphores. -/
theorem credits (c : Dev nD) :
    (Pipeline.launchCred owes₃ c : sProp 𝕄)
      ⊢ iprop(cred (tallyAt (barCell c) () 3) ∗ cred (tallyAt (recvCell 0 c) () N) ∗ cred (tallyAt (recvCell 1 c) () N) ∗ cred (tallyAt (recvCell 2 c) () N)) := by
  unfold Pipeline.launchCred
  refine (bigSep_subset (Finset.subset_univ {SemLoc.reg barS, SemLoc.dma (recvS 0), SemLoc.dma (recvS 1), SemLoc.dma (recvS 2)})).trans ?_
  rw [bigSep_insert (by decide), bigSep_insert (by decide), bigSep_insert (by decide), bigSep_singleton, credit_bar, credit_recv, credit_recv, credit_recv]
  exact BI.Entails.refl _

end Cert.Scan

end
-- ==== Proof.Launch.lean ====
/-
# The kernel's run

From any memory with every counter at zero, the kernel on the four devices terminates, leaves the arguments as they
were, each device's result array with that device's block, and every counter at zero.
-/
module

public import proofs.«01_k».proof.Proof.Deal
public import Idealize.ShloMosaic.Lib.Pipeline.CollectiveSegs

@[expose] public section

noncomputable section

namespace Cert.Scan

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-- Every window is held outright. -/
theorem share_eq (c : Dev nD) (w : Fin cfg0.W) : (dats m ρ 0 c).share w = fullShare := by unfold Dat.share; split <;> rfl

/-- What a device's thread brings to the body. -/
theorem start_intro (c : Dev nD) :
    iprop(Pipeline.unscopedRestP Pipeline.Prefetch.none cfg0.spec c (fun b => m ((c : Thread nD τ).loc b)) ∗ levAts L lv
        ∗ Pipeline.launchCred owes₃ c ∗ prngReg c (ρ c) ∗ G' m ρ c)
      ⊢ |={Set.univ}=> iprop(start m ρ c ∗ emp) := by
  iintro ⟨-, Hlev, Hcr, -, HG⟩
  ihave Hc := (credits (F := F) c) $$ Hcr
  imodintro
  unfold start G'
  isplitl
  · isplitl [HG]; · iexact HG
    isplitl [Hc]; · iexact Hc
    iexact Hlev
  · iempintro

/-- The scoped buffers and what the thread brings are what the body starts from. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufPts
  iintro ⟨Hs, -, Hr⟩
  isplitl [Hs] <;> iassumption

/-- What the body leaves gives back the semaphores at zero and the scoped buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_counters, bar_counter]
  unfold Φ₁ bufPts
  iintro ⟨Hr, HB, ⟨HS0, HR0⟩, ⟨HS1, HR1⟩, HS2, HR2⟩
  isplitl [HB]; · iexact HB
  isplitr [Hr]
  · isplitl [HS0]; · iexact HS0
    isplitl [HR0]; · iexact HR0
    isplitl [HS1]; · iexact HS1
    isplitl [HR1]; · iexact HR1
    isplitl [HS2] <;> iassumption
  iexact Hr

/-- The order lets the pipeline wait on its staging semaphores. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of device `c`'s array of window `w` at the end. -/
def endsAt (c : Dev nD) (w : Fin cfg0.W) : Buf (Elt F) ((cfg0.win w).arr.view.loc (c : Thread nD τ)) := (dats m ρ 0 c).arrAt w cfg0.N

set_option maxRecDepth 8000 in
/-- The run, window by window. -/
theorem run_windows : θ_run defs (onTc (τ := τ) (main (F := F))) (s₀ m ρ)
    (fun r => (∀ c : Dev nD, ∀ w : Fin cfg0.W, r.2.mem ((cfg0.win w).arr.view.loc (c : Thread nD τ)) = endsAt m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owes₃) (howed₀ := fun _ => rfl) (howedN := fun _ => rfl)
    (L := L) (lv := lv) (hL := L_core) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is left as it was. -/
theorem ends_arg (c : Dev nD) : endsAt m ρ c (0 : Fin 2) = m ((c : Thread nD τ).loc main_arg0) :=
  (dats (F := F) m ρ 0 c).arrAt_in (0 : Fin 2) rfl _

omit [FloatOps F] in
/-- The one block of the argument's array is the array, -/
theorem read_arg (f : (main_arg0 : Ref sig .tc).ty.Contents (Elt F)) : (win0_0.blk t0_0).view.read (Elt F) f = f :=
  Memref.read_access_unit_zero (Elt F) main_arg0 (funext fun a => by fin_cases a <;> rfl) _ f
omit [FloatOps F] in
/-- and so is that of the result's. -/
theorem read_res (f : (main_v1 : Ref sig .tc).ty.Contents (Elt F)) : (win0_1.blk t0_0).view.read (Elt F) f = f :=
  Memref.read_access_unit_zero (Elt F) main_v1 (funext fun a => by fin_cases a <;> rfl) _ f

/-- A device's staged block is its argument. -/
theorem xblk_eq (c : Dev nD) : xblk m ρ c = m ((c : Thread nD τ).loc main_arg0) := read_arg _

/-- The result's array ends with the device's block. -/
theorem ends_out (c : Dev nD) : endsAt m ρ c (1 : Fin 2) = outAt m ρ c := by
  have h : (win0_1.blk t0_0).view.read (Elt F) (endsAt m ρ c (1 : Fin 2)) = outAt m ρ c := by
    unfold endsAt
    rw [show cfg0.N = (t0_0 : Fin cfg0.N).val + 1 from rfl, (dats m ρ 0 c).arrAt_succ (1 : Fin 2) t0_0,
      flush0_1, if_pos rfl]
    exact View.read_write_univ _ _
  exact (read_res _).symm.trans h

/-- The kernel's run. -/
theorem run_kernel : θ_run defs (onTc (τ := τ) (main (F := F))) (s₀ m ρ) (fun r =>
    (∀ c : Dev nD, r.2.mem ((c : Thread nD τ).loc main_v1) = outAt m ρ c)
      ∧ (∀ c : Dev nD, r.2.mem ((c : Thread nD τ).loc main_arg0) = m ((c : Thread nD τ).loc main_arg0)) ∧ r.2.sem = fun _ => 0) :=
  (θ_run defs _ _).mono (fun _ h => ⟨fun c => (h.1 c 1).trans (ends_out m ρ c), fun c => (h.1 c 0).trans (ends_arg m ρ c), h.2⟩) (run_windows m ρ)

end Cert.Scan

end
-- ==== Proof.Columns.lean ====
/-
# Columns of an array as sequences

An array of rows of 512 numbers is read down one column: entry `k` of the column is the array's element in row `k`, and
one from the array's end on.  Over the extended reals multiplication is commutative and associative, so a product over a
stretch of a column may be taken in any order.
-/
module

public import Idealize.ShloMosaic.PureOps
public import Idealize.ShloMosaic.PureOps.Ideal
public import Idealize.ShloMosaic.Lib.IdealHost
public import Idealize.ShloMosaic.Lib.Pipeline.Value
public import Mathlib.Algebra.BigOperators.Intervals

@[expose] public section

noncomputable section

namespace Cert.Scan

open Idealize.ShloMosaic

/-- The shape of `n` rows of 512. -/
abbrev Sh (n : ℕ) : Shape := ⟨2, ![n, 512]⟩

/-- Row `k`, column `j`. -/
def spot {n : ℕ} (k : Fin n) (j : Fin 512) : (Sh n).Idx := Shape.pair (d := ![n, 512]) k j

/-- An index is the one of its row and column. -/
theorem spot_eta {n : ℕ} (i : (Sh n).Idx) : spot (i 0) (i 1) = i := Shape.pair_eta i

/-- Entry `k` of column `j`; one past the last row. -/
def col {n : ℕ} (x : (Sh n).Idx → EReal) (j : Fin 512) (k : ℕ) : EReal :=
  if h : k < n then x (spot ⟨k, h⟩ j) else 1

/-- Inside the array a column's entry is the array's element. -/
theorem col_of_lt {n : ℕ} (x : (Sh n).Idx → EReal) (j : Fin 512) {k : ℕ} (h : k < n) : col x j k = x (spot ⟨k, h⟩ j) :=
  dif_pos h

/-- An array is fixed by its columns. -/
theorem ext_col {n : ℕ} {x y : (Sh n).Idx → EReal} (h : ∀ j, ∀ k < n, col x j k = col y j k) : x = y := by
  funext i
  have hi : (i 0).val < n := (i 0).isLt
  have e : spot (⟨(i 0).val, hi⟩ : Fin n) (i 1) = i := spot_eta i
  rw [← e]
  exact (col_of_lt x _ hi).symm.trans ((h (i 1) (i 0).val hi).trans (col_of_lt y _ hi))

/-- The product of two arrays, column by column. -/
theorem col_mulf {n : ℕ} (x y : FVec Ideal (Sh n) .bf16) (j : Fin 512) {k : ℕ} (h : k < n) :
    col (mulf x y) j k = col x j k * col y j k := by
  rw [col_of_lt _ _ h, col_of_lt _ _ h, col_of_lt _ _ h]; rfl

/-- `m` rows taken from row `o` on: each column starts at its entry `o`. -/
theorem col_slice {n m : ℕ} (o : ℕ) (x : FVec Ideal (Sh n) .bf16) (h : Shape.Slices (Sh n) ![o, 0] (Sh m)) (j : Fin 512)
    {k : ℕ} (hk : k < m) : col (extractStridedSlice (Sh m) ![o, 0] x h) j k = col x j (o + k) := by
  have hn : o + m ≤ n := h.2 0
  rw [col_of_lt _ _ hk, col_of_lt _ _ (show o + k < n by omega)]
  refine congrArg x (funext fun a => Fin.ext ?_)
  match a with
  | ⟨0, _⟩ => rfl
  | ⟨1, _⟩ => exact Nat.zero_add _

/-- Twice `m` rows folded once, the lower half times the upper half: every column keeps its product. -/
theorem prod_fold {n m : ℕ} (hn : n = m + m) (x : FVec Ideal (Sh n) .bf16) (h₀ : Shape.Slices (Sh n) ![0, 0] (Sh m))
    (h₁ : Shape.Slices (Sh n) ![m, 0] (Sh m)) (j : Fin 512) :
    ∏ k ∈ Finset.range m, col (mulf (extractStridedSlice (Sh m) ![0, 0] x h₀) (extractStridedSlice (Sh m) ![m, 0] x h₁)) j k
      = ∏ k ∈ Finset.range n, col x j k := by
  subst hn
  rw [Finset.prod_range_add, ← Finset.prod_mul_distrib]
  refine Finset.prod_congr rfl fun k hk => ?_
  have hk' := Finset.mem_range.mp hk
  rw [col_mulf _ _ _ hk', col_slice _ _ _ _ hk', col_slice _ _ _ _ hk', Nat.zero_add]

/-- Ones. -/
theorem col_ones {n : ℕ} (j : Fin 512) (k : ℕ) : col (broadcast (Sh n) (Scalar.ofBits (F := Ideal) .bf16 0x3F80#16)) j k = 1 := by
  unfold col
  split
  · exact Ideal.ofBits_one_bf16
  · rfl

/-- `d` rows laid over `e`: the first `d` entries of a column are the first array's, the later ones the second's. -/
theorem col_over {n d e : ℕ} (x : FVec Ideal (Sh d) .bf16) (y : FVec Ideal (Sh e) .bf16)
    (h : Shape.Concatenates [Sh d, Sh e] (Sh n) 0) (hn : n = d + e) (j : Fin 512) {k : ℕ} (hk : k < n) :
    col (concatenate (Sh n) 0 [⟨Sh d, x⟩, ⟨Sh e, y⟩] h) j k = if k < d then col x j k else col y j (k - d) := by
  rw [col_of_lt _ _ hk]
  split
  · rename_i hd
    rw [col_of_lt _ _ hd]
    refine concatenate_pair_apply_left (t := Sh n) (s₁ := Sh d) (s₂ := Sh e) 0 x y h _ rfl _ fun b => ?_
    match b with
    | ⟨0, _⟩ => rfl
    | ⟨1, _⟩ => rfl
  · rename_i hd
    have he : k - d < e := by omega
    rw [col_of_lt _ _ he]
    refine concatenate_pair_apply_right (t := Sh n) (s₁ := Sh d) (s₂ := Sh e) 0 x y h _ rfl rfl _ (fun b hb => ?_) ?_
    · match b, hb with
      | ⟨0, _⟩, hb => exact absurd rfl hb
      | ⟨1, _⟩, _ => rfl
    · show k - d + d = k
      omega

/-- An array whose entry `k` of every column is the product of the last `w` entries of `f` up to `k`. -/
def Windowed (w : ℕ) (f : Fin 512 → ℕ → EReal) (x : FVec Ideal (Sh 512) .bf16) : Prop :=
  ∀ j, ∀ k < 512, col x j k = ∏ i ∈ Finset.Ico (k + 1 - w) (k + 1), f j i

/-- One round of the scan: the array times itself moved down by `w` rows, ones moved in, has windows twice as long. -/
theorem Windowed.double {w e : ℕ} {f : Fin 512 → ℕ → EReal} {x : FVec Ideal (Sh 512) .bf16} (hx : Windowed w f x)
    (he : 512 = w + e) (h : Shape.Concatenates [Sh w, Sh e] (Sh 512) 0) (hs : Shape.Slices (Sh 512) ![0, 0] (Sh e)) :
    Windowed (w + w) f (mulf x (concatenate (Sh 512) 0
      [⟨Sh w, broadcast (Sh w) (Scalar.ofBits (F := Ideal) .bf16 0x3F80#16)⟩, ⟨Sh e, extractStridedSlice (Sh e) ![0, 0] x hs⟩] h)) := by
  intro j k hk
  rw [col_mulf _ _ _ hk, col_over _ _ _ he _ hk, hx j k hk]
  split
  · rename_i hw
    rw [col_ones, mul_one, show k + 1 - w = 0 by omega, show k + 1 - (w + w) = 0 by omega]
  · rename_i hw
    rw [col_slice _ _ _ _ (show k - w < e by omega), Nat.zero_add, hx j (k - w) (by omega), mul_comm,
      show k - w + 1 = k + 1 - w by omega, show k + 1 - w - w = k + 1 - (w + w) by omega]
    exact Finset.prod_Ico_consecutive _ (by omega) (by omega)

end Cert.Scan

end
-- ==== Proof.Reference.lean ====
/-
# What the reference computes

After `k` rounds of its loop the reference's counter is `k`, its running row holds the product of the first `k` rows, and
the rows of its result before `k` hold the products of the rows up to each of them.
-/
module

public import proofs.«01_k».proof.Proof.Columns
public import proofs.«01_k».proof.Proof.Gen.ReferenceIdeal.Run
public import Idealize.ShloMosaic.Lib.WordCmp
public import Idealize.ShloMosaic.Lib.Pointwise.ShapeOpsCore

@[expose] public section

noncomputable section

namespace Cert.Scan.Ref

open Cert.ReferenceIdeal Cert.ReferenceIdeal.Gen Cert.ReferenceIdeal.Value
open Idealize.ShloMosaic Idealize.ShloMosaic.TcCoe Idealize.ShloMosaic.StableHlo

/-- Entry `j` of a vector of 512. -/
def slot (j : Fin 512) : S512.Idx := fun a => ⟨j.val, by
  match a with
  | ⟨0, _⟩ => exact j.isLt⟩

/-- A loop counter below 2048, read as an integer. -/
theorem toInt_count {k : ℕ} (hk : k < 2048) : (BitVec.ofNat 32 k).toInt = (k : Int) :=
  WordCmp.toInt_ofNat_of_lt (by omega)

/-- Where a round reads and writes: row `k`, column 0. -/
theorem start_row {k : ℕ} (hk : k < 2048) (w : S_.Idx → BitVec 32) (hw : w = fun _ => BitVec.ofNat 32 k) (a : Fin 2) :
    ((![w, constantI S_ 32 0#32] : Fin 2 → S_.Idx → BitVec 32) a (Shape.Idx.first h_S_)).toInt = ((![k, 0] : Fin 2 → ℕ) a : Int) := by
  subst hw
  match a with
  | ⟨0, _⟩ => exact toInt_count hk
  | ⟨1, _⟩ => rfl

/-- Row `k` lies in the array. -/
theorem row_inside {k : ℕ} (hk : k < 2048) : Shape.Slices (Sh 2048) ![k, 0] (Sh 1) := ⟨rfl, fun a => by
  match a with
  | ⟨0, _⟩ => show k + 1 ≤ 2048; omega
  | ⟨1, _⟩ => show 0 + 512 ≤ 512; omega⟩

/-- One row of the operand, as a vector. -/
theorem row_read (x : FVec Ideal S2048x512 .bf16) {k : ℕ} (hk : k < 2048) (start : Fin 2 → Int)
    (e : ∀ a, start a = ((![k, 0] : Fin 2 → ℕ) a : Int)) (j : Fin 512) :
    shapeCast S512 (Host.dynamicSlice S1x512 x start sliceFits_S2048x512_S1x512) shapeCasts_S1x512_S512 (slot j)
      = col (n := 2048) x j k := by
  rw [WordCmp.dynamicSlice_eq_extract _ _ _ _ _ (row_inside hk) e]
  refine (shapeCast_dropUnit_apply (![512] : Fin 1 → ℕ) _ _ (slot j)).trans ?_
  rw [col_of_lt _ _ hk]
  refine congrArg x (funext fun a => Fin.ext ?_)
  match a with
  | ⟨0, _⟩ => rfl
  | ⟨1, _⟩ => exact Nat.zero_add _

/-- The result with one row written. -/
theorem row_write (x : FVec Ideal S2048x512 .bf16) (v : FVec Ideal S512 .bf16) {k : ℕ} (hk : k < 2048) (start : Fin 2 → Int)
    (e : ∀ a, start a = ((![k, 0] : Fin 2 → ℕ) a : Int)) (j : Fin 512) {r : ℕ} (hr : r < 2048) :
    col (n := 2048) (Host.dynamicUpdateSlice x (broadcastInDim S1x512 ![1] bcast_S512_S1x512_1 v) start updateFits_S2048x512_S1x512) j r
      = if r = k then v (slot j) else col (n := 2048) x j r := by
  rw [WordCmp.dynamicUpdateSlice_eq_update _ _ _ _ _ (row_inside hk) e, col_of_lt _ _ hr, col_of_lt _ _ hr]
  unfold updateSlice
  by_cases h : r = k
  · rw [if_pos h, dif_pos]
    · refine congrArg v (funext fun a => Fin.ext ?_)
      match a with
      | ⟨0, _⟩ => rfl
    · intro a
      match a with
      | ⟨0, _⟩ => show k ≤ r ∧ r < k + 1; omega
      | ⟨1, _⟩ => exact ⟨Nat.zero_le _, by show j.val < 0 + 512; omega⟩
  · rw [if_neg h, dif_neg]
    intro hin
    have h0 : k ≤ r ∧ r < k + 1 := hin 0
    omega

/-- The contents after `k` rounds, from `x`. -/
structure After (x : FVec Ideal S2048x512 .bf16) (k : ℕ) (V : Valuation τ sig (Elt Ideal)) : Prop where
  /-- The operand is as it was. -/
  operand : V (Proc.devRef .tc main_v2_0) = x
  /-- The counter is `k`. -/
  count : V (Proc.devRef .tc main_v2_1) = fun _ => BitVec.ofNat 32 k
  /-- The running row is the product of the first `k` rows. -/
  running : ∀ j, (V (Proc.devRef .tc main_v2_2) : FVec Ideal S512 .bf16) (slot j) = ∏ i ∈ Finset.range k, col (n := 2048) x j i
  /-- Each earlier row of the result is the product of the rows up to it. -/
  result : ∀ j, ∀ r < k, r < 2048 →
    col (n := 2048) (V (Proc.devRef .tc main_v2_3) : FVec Ideal S2048x512 .bf16) j r = ∏ i ∈ Finset.range (r + 1), col (n := 2048) x j i

/-- The running row after one more round. -/
theorem After.next_row {x : FVec Ideal S2048x512 .bf16} {k : ℕ} {V : Valuation τ sig (Elt Ideal)} (h : After x k V) (hk : k < 2048)
    (j : Fin 512) : (res_main_while0b_v4 V : FVec Ideal S512 .bf16) (slot j) = ∏ i ∈ Finset.range (k + 1), col (n := 2048) x j i := by
  unfold res_main_while0b_v4
  rw [Finset.prod_range_succ, ← h.running j, ← row_read x hk _ (start_row hk _ h.count) j, ← h.operand]
  rfl

/-- One round. -/
theorem After.next {x : FVec Ideal S2048x512 .bf16} {k : ℕ} {V : Valuation τ sig (Elt Ideal)} (h : After x k V) (hk : k < 2048) :
    After x (k + 1) (STEP V) where
  operand := (STEP_main_v2_0 V).trans h.operand
  count := by
    rw [STEP_main_v2_1]; unfold step_main_v2_1; rw [h.count]
    funext i
    show BitVec.ofNat 32 k + 1#32 = BitVec.ofNat 32 (k + 1)
    rw [BitVec.ofNat_add]
  running := fun j => by rw [STEP_main_v2_2]; exact h.next_row hk j
  result := fun j r hr hr' => by
    rw [STEP_main_v2_3]
    refine (row_write _ _ hk _ (start_row hk _ h.count) j hr').trans ?_
    split
    · rename_i e; rw [e]; exact h.next_row hk j
    · rename_i e; exact h.result j r (by omega) hr'

/-- Any number of rounds up to 2048. -/
theorem After.rounds {x : FVec Ideal S2048x512 .bf16} {V : Valuation τ sig (Elt Ideal)} (h : After x 0 V) :
    ∀ k ≤ 2048, After x k (STEP^[k] V)
  | 0, _ => h
  | k + 1, hk => by
    rw [Function.iterate_succ_apply']
    exact (After.rounds h k (by omega)).next (by omega)

/-- The contents at the loop's entry. -/
theorem entry (m : (ℓ : Loc nD τ sig) → Buf (Elt Ideal) ℓ) (c : Dev nD) :
    After (m ((c.tc : Thread nD τ).loc main_arg0)) 0 (entryContents preI m c) where
  operand := by
    simp only [entryContents, afterL_cons, afterL_nil]
    after_results
    rfl
  count := ctr_entry m c
  running := fun j => by
    rw [Finset.prod_range_zero]
    simp only [entryContents, afterL_cons, afterL_nil]
    after_results
    exact Ideal.ofBits_one_bf16
  result := fun j r hr => absurd hr (Nat.not_lt_zero r)

/-- The reference terminates, with row `r` of its result the product of the rows `0 … r` of its argument, the argument
    as it was and every counter at zero. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_v2_3)
            = (STEP^[2048] (entryContents preI m c)) (Proc.devRef .tc main_v2_3)
          ∧ r.2.mem ((c.tc : Thread nD τ).loc main_arg0) = m ((c.tc : Thread nD τ).loc main_arg0))
        ∧ r.2.sem = fun _ => 0) :=
  (θ_run defs _ _).mono (fun r h => ⟨h, sem_eq_zero_of_no_sems (by decide) r.2⟩) (run m ρ)

/-- The reference's result, from the launch contents. -/
def answer (m : (ℓ : Loc nD τ sig) → Buf (Elt Ideal) ℓ) (c : Dev nD) : FVec Ideal S2048x512 .bf16 :=
  (STEP^[2048] (entryContents preI m c)) (Proc.devRef .tc main_v2_3)

/-- Row `r` of the reference's result is the product of the rows `0 … r` of its argument. -/
theorem col_answer (m : (ℓ : Loc nD τ sig) → Buf (Elt Ideal) ℓ) (c : Dev nD) (j : Fin 512) {r : ℕ} (hr : r < 2048) :
    col (n := 2048) (answer m c) j r
      = ∏ i ∈ Finset.range (r + 1), col (n := 2048) (m ((c.tc : Thread nD τ).loc main_arg0) : FVec Ideal S2048x512 .bf16) j i :=
  ((entry m c).rounds 2048 le_rfl).result j r hr hr

end Cert.Scan.Ref

end
-- ==== Proof.Device.lean ====
/-
# What one device computes

Column by column, over the extended reals: the total a device sends is the product of its 512 rows; its scan's row `r`
is the product of its rows `0 … r`; and the factor it takes from the other devices is the product of the totals of the
devices before it.
-/
module

public import proofs.«01_k».proof.Proof.Columns
public import proofs.«01_k».proof.Proof.Body

@[expose] public section

noncomputable section

namespace Cert.Scan

open Cert.KernelIdeal Cert.KernelIdeal.Gen
open Idealize.ShloMosaic

/-- The block as loaded, unchanged by its cast to its own shape. -/
theorem pay1_eq (x : FVec Ideal S512x512 .bf16) : k0_pay1 x = x := shapeCast_self x _

/-- The one row of an array of one row. -/
theorem prod_one_row (x : FVec Ideal (Sh 1) .bf16) (j : Fin 512) : ∏ k ∈ Finset.range 1, col x j k = col x j 0 :=
  Finset.prod_range_one _

/-- Column `j` of a total: its only element there. -/
def lane (t : FVec Ideal S1x1x512 .bf16) (j : Fin 512) : EReal := col (n := 1) (shapeCast S1x512 t shapeCasts_S1x1x512_S1x512) j 0

/-- An array of `m + m` rows folded once: its upper `m` rows times its lower `m`. -/
def fold (n m : ℕ) (h₀ : Shape.Slices (Sh n) ![0, 0] (Sh m)) (h₁ : Shape.Slices (Sh n) ![m, 0] (Sh m))
    (x : FVec Ideal (Sh n) .bf16) : FVec Ideal (Sh m) .bf16 :=
  mulf (extractStridedSlice (Sh m) ![0, 0] x h₀) (extractStridedSlice (Sh m) ![m, 0] x h₁)

/-- The total as nine folds. -/
theorem total_folds (x : FVec Ideal S512x512 .bf16) : k0_pay2 x = shapeCast S1x1x512
    (fold 2 1 slices_S2x512_o0_0_S1x512 slices_S2x512_o1_0_S1x512
    (fold 4 2 slices_S4x512_o0_0_S2x512 slices_S4x512_o2_0_S2x512
    (fold 8 4 slices_S8x512_o0_0_S4x512 slices_S8x512_o4_0_S4x512
    (fold 16 8 slices_S16x512_o0_0_S8x512 slices_S16x512_o8_0_S8x512
    (fold 32 16 slices_S32x512_o0_0_S16x512 slices_S32x512_o16_0_S16x512
    (fold 64 32 slices_S64x512_o0_0_S32x512 slices_S64x512_o32_0_S32x512
    (fold 128 64 slices_S128x512_o0_0_S64x512 slices_S128x512_o64_0_S64x512
    (fold 256 128 slices_S256x512_o0_0_S128x512 slices_S256x512_o128_0_S128x512
    (fold 512 256 slices_S512x512_o0_0_S256x512 slices_S512x512_o256_0_S256x512 (k0_pay1 x)))))))))) shapeCasts_S1x512_S1x1x512 := rfl

/-- The total a device sends is the product of its block's rows. -/
theorem lane_total (x : FVec Ideal S512x512 .bf16) (j : Fin 512) :
    lane (k0_pay2 x) j = ∏ k ∈ Finset.range 512, col (n := 512) x j k := by
  unfold lane
  rw [total_folds, shapeCast_shapeCast, pay1_eq, ← prod_one_row]
  unfold fold
  rw [prod_fold (n := 2) (m := 1) rfl, prod_fold (n := 4) (m := 2) rfl, prod_fold (n := 8) (m := 4) rfl,
    prod_fold (n := 16) (m := 8) rfl, prod_fold (n := 32) (m := 16) rfl, prod_fold (n := 64) (m := 32) rfl,
    prod_fold (n := 128) (m := 64) rfl, prod_fold (n := 256) (m := 128) rfl, prod_fold (n := 512) (m := 256) rfl]

/-- A block's columns are windows of length one over themselves. -/
theorem windowed_self (x : FVec Ideal (Sh 512) .bf16) : Windowed 1 (col x) x := fun j k _ => by
  rw [show k + 1 - 1 = k by omega, Finset.prod_Ico_succ_top le_rfl, Finset.Ico_self, Finset.prod_empty, one_mul]

/-- After nine rounds the windows are 512 long. -/
theorem windowed_scan (x : FVec Ideal S512x512 .bf16) :
    Windowed 512 (col (n := 512) x) (k0_pay5 (k0_pay1 x) k0_pay3 (k0_pay4 (k0_pay1 x))) := by
  rw [pay1_eq]
  unfold k0_pay5 k0_pay4 k0_pay3
  dsimp only
  have h₁ := (windowed_self x).double (e := 511) rfl concatenates_S1x512_S511x512_S512x512_d0 slices_S512x512_o0_0_S511x512
  have h₂ := h₁.double (e := 510) rfl concatenates_S2x512_S510x512_S512x512_d0 slices_S512x512_o0_0_S510x512
  have h₃ := h₂.double (e := 508) rfl concatenates_S4x512_S508x512_S512x512_d0 slices_S512x512_o0_0_S508x512
  have h₄ := h₃.double (e := 504) rfl concatenates_S8x512_S504x512_S512x512_d0 slices_S512x512_o0_0_S504x512
  have h₅ := h₄.double (e := 496) rfl concatenates_S16x512_S496x512_S512x512_d0 slices_S512x512_o0_0_S496x512
  have h₆ := h₅.double (e := 480) rfl concatenates_S32x512_S480x512_S512x512_d0 slices_S512x512_o0_0_S480x512
  have h₇ := h₆.double (e := 448) rfl concatenates_S64x512_S448x512_S512x512_d0 slices_S512x512_o0_0_S448x512
  have h₈ := h₇.double (e := 384) rfl concatenates_S128x512_S384x512_S512x512_d0 slices_S512x512_o0_0_S384x512
  exact h₈.double (e := 256) rfl concatenates_S256x512_S256x512_S512x512_d0 slices_S512x512_o0_0_S256x512

/-- Row `k` of the scan is the product of the block's rows `0 … k`. -/
theorem col_scan (x : FVec Ideal S512x512 .bf16) (j : Fin 512) {k : ℕ} (hk : k < 512) :
    col (n := 512) (k0_pay5 (F := Ideal) (k0_pay1 x) k0_pay3 (k0_pay4 (k0_pay1 x))) j k = ∏ i ∈ Finset.range (k + 1), col (n := 512) x j i := by
  rw [windowed_scan x j k hk, show k + 1 - 512 = 0 by omega, ← Finset.range_eq_Ico]

/-- Choosing a total or ones, by a bit. -/
theorem col_choose (b : BitVec 1) (t : FVec Ideal S1x1x512 .bf16) (j : Fin 512) :
    col (n := 1) (Scalar.select b (shapeCast S1x512 t shapeCasts_S1x1x512_S1x512)
      (broadcast S1x512 (Scalar.truncf .bf16 bitsLt_bf16_f32 (Scalar.ofBits (F := Ideal) .f32 0x3F800000#32)))) j 0
      = if b = 1#1 then lane t j else 1 := by
  unfold Scalar.select
  split
  · rename_i hb
    exact (if_pos hb).symm
  · rename_i hb
    rw [col_of_lt _ _ (by decide)]
    exact Ideal.ofBits_one_f32.trans (if_neg hb).symm

/-- The factor a device takes from the others: the total of the device `i` places before, wherever `i` is at most the
    device's own place. -/
def before (c : Fin 4) (t₀ t₁ t₂ : FVec Ideal S1x1x512 .bf16) (j : Fin 512) : EReal :=
  (if 1 ≤ c.val then lane t₀ j else 1) * (if 2 ≤ c.val then lane t₁ j else 1) * (if 3 ≤ c.val then lane t₂ j else 1)

/-- The factor after the first wait: the total of the device before, unless this is the first device. -/
theorem col_first (c : Dev nD) (t : FVec Ideal S1x1x512 .bf16) (j : Fin 512) :
    col (n := 1) (k0_pay7 (F := Ideal) (place c) k0_pay6 t) j 0 = if 1 ≤ c.val then lane t j else 1 := by
  unfold k0_pay7 k0_pay6
  dsimp only
  rw [col_mulf (n := 1) _ _ _ (by decide), col_ones, one_mul, col_choose]
  refine if_congr ?_ rfl rfl
  revert c; decide

/-- The second wait multiplies in the total of the device two places before, if there is one. -/
theorem col_second (c : Dev nD) (p : FVec Ideal S1x512 .bf16) (t : FVec Ideal S1x1x512 .bf16) (j : Fin 512) :
    col (n := 1) (k0_pay8 (F := Ideal) (place c) p t) j 0 = col (n := 1) p j 0 * if 2 ≤ c.val then lane t j else 1 := by
  unfold k0_pay8
  dsimp only
  rw [col_mulf (n := 1) _ _ _ (by decide), col_choose]
  refine congrArg _ (if_congr ?_ rfl rfl)
  revert c; decide

/-- One row repeated over 512 rows. -/
theorem col_repeat (p : FVec Ideal S1x512 .bf16) (j : Fin 512) {k : ℕ} (hk : k < 512) :
    col (n := 512) (broadcastTo S512x512 p broadcasts_S1x512_S512x512) j k = col (n := 1) p j 0 := by
  rw [col_of_lt _ _ hk, col_of_lt _ _ (by decide)]
  refine congrArg p (funext fun a => Fin.ext ?_)
  match a with
  | ⟨0, _⟩ => rfl
  | ⟨1, _⟩ => rfl

/-- The third does likewise, and every row of the scan is multiplied by the factor. -/
theorem col_third (c : Dev nD) (y : FVec Ideal S512x512 .bf16) (p : FVec Ideal S1x512 .bf16) (t : FVec Ideal S1x1x512 .bf16)
    (j : Fin 512) {k : ℕ} (hk : k < 512) :
    col (n := 512) (k0_pay9 (F := Ideal) (place c) y p t) j k = col (n := 512) y j k * (col (n := 1) p j 0 * if 3 ≤ c.val then lane t j else 1) := by
  unfold k0_pay9
  dsimp only
  rw [col_mulf (n := 512) _ _ _ hk, col_repeat _ _ hk, col_mulf (n := 1) _ _ _ (by decide), col_choose]
  refine congrArg _ (congrArg _ (if_congr ?_ rfl rfl))
  revert c; decide

/-- A device's block of the result: each row the product of its block's rows so far, times the factor of the devices
    before it. -/
theorem col_outOf (c : Dev nD) (x : FVec Ideal S512x512 .bf16) (t₀ t₁ t₂ : FVec Ideal S1x1x512 .bf16) (j : Fin 512) {k : ℕ}
    (hk : k < 512) :
    col (n := 512) (outOf (F := Ideal) c x t₀ t₁ t₂) j k = (∏ i ∈ Finset.range (k + 1), col (n := 512) x j i) * before c t₀ t₁ t₂ j := by
  unfold outOf before
  rw [col_third c _ _ _ j hk, col_scan x j hk, col_second, col_first]

end Cert.Scan

end
-- ==== Proof.Equation.lean ====
/-
# Kernel and reference compute the same array

A column of the whole array is the four devices' columns one after another.  The product of its first `512 c + k + 1`
entries is the product of the blocks before block `c` times that of the first `k + 1` entries of block `c`: the first
factor is what device `c` takes from the others, the second its own scan.
-/
module

public import proofs.«01_k».proof.Proof.Device
public import proofs.«01_k».proof.Proof.Launch
public import proofs.«01_k».proof.Proof.Reference
public import Idealize.ShloMosaic.Lib.Layout

@[expose] public section

noncomputable section

namespace Cert.Scan

open Cert.KernelIdeal Cert.KernelIdeal.Gen
open Idealize.ShloMosaic Idealize.ShloMosaic.TcCoe

/-- The part of an array of 2048 rows that device `c` holds. -/
abbrev share (c : Dev nD) (x : FVec Ideal (Sh 2048) .bf16) : FVec Ideal (Sh 512) .bf16 :=
  Layout.block ⟨2, ![512, 512]⟩ ⟨2, ![2048, 512]⟩ 0 4 c x

/-- A column of device `c`'s part starts at entry `512 c` of the array's column. -/
theorem col_part (c : Dev nD) (x : FVec Ideal (Sh 2048) .bf16) (j : Fin 512) {k : ℕ} (hk : k < 512) :
    col (share c x) j k = col x j (512 * c.val + k) := by
  have hc : c.val < 4 := c.isLt
  rw [col_of_lt _ _ hk, col_of_lt _ _ (show 512 * c.val + k < 2048 by omega)]
  refine congrArg x (funext fun a => Fin.ext ?_)
  match a with
  | ⟨0, _⟩ => show c.val * 512 + k = 512 * c.val + k; omega
  | ⟨1, _⟩ => rfl

/-- The product of the `d`-th stretch of 512 terms. -/
def stretch (f : ℕ → EReal) (d : ℕ) : EReal := ∏ k ∈ Finset.range 512, f (512 * d + k)

/-- One more stretch. -/
theorem prod_stretch (f : ℕ → EReal) (d : ℕ) :
    ∏ i ∈ Finset.range (512 * (d + 1)), f i = stretch f d * ∏ i ∈ Finset.range (512 * d), f i := by
  rw [Nat.mul_succ, Finset.prod_range_add, mul_comm]; rfl

/-- The stretches before the `c`-th, nearest first. -/
theorem prod_before (f : ℕ → EReal) (c : Dev nD) :
    (if 1 ≤ c.val then stretch f (bwd 0 c).val else 1) * (if 2 ≤ c.val then stretch f (bwd 1 c).val else 1)
        * (if 3 ≤ c.val then stretch f (bwd 2 c).val else 1)
      = ∏ i ∈ Finset.range (512 * c.val), f i := by
  match c with
  | ⟨0, _⟩ => simp
  | ⟨1, _⟩ =>
    rw [if_pos (show 1 ≤ 1 by decide), if_neg (show ¬ 2 ≤ 1 by decide), if_neg (show ¬ 3 ≤ 1 by decide)]
    rw [show (bwd 0 (⟨1, by decide⟩ : Dev nD)).val = 0 by decide]
    show stretch f 0 * 1 * 1 = ∏ i ∈ Finset.range (512 * (0 + 1)), f i
    rw [prod_stretch]; simp
  | ⟨2, _⟩ =>
    rw [if_pos (show 1 ≤ 2 by decide), if_pos (show 2 ≤ 2 by decide), if_neg (show ¬ 3 ≤ 2 by decide)]
    rw [show (bwd 0 (⟨2, by decide⟩ : Dev nD)).val = 1 by decide, show (bwd 1 (⟨2, by decide⟩ : Dev nD)).val = 0 by decide]
    show stretch f 1 * stretch f 0 * 1 = ∏ i ∈ Finset.range (512 * (1 + 1)), f i
    rw [prod_stretch, show (1 : ℕ) = 0 + 1 from rfl, prod_stretch]; simp
  | ⟨3, _⟩ =>
    rw [if_pos (show 1 ≤ 3 by decide), if_pos (show 2 ≤ 3 by decide), if_pos (show 3 ≤ 3 by decide)]
    rw [show (bwd 0 (⟨3, by decide⟩ : Dev nD)).val = 2 by decide, show (bwd 1 (⟨3, by decide⟩ : Dev nD)).val = 1 by decide,
      show (bwd 2 (⟨3, by decide⟩ : Dev nD)).val = 0 by decide]
    show stretch f 2 * stretch f 1 * stretch f 0 = ∏ i ∈ Finset.range (512 * (2 + 1)), f i
    rw [prod_stretch, show (2 : ℕ) = 1 + 1 from rfl, prod_stretch, show (1 : ℕ) = 0 + 1 from rfl, prod_stretch]
    simp [mul_assoc]

/-- The total of device `c`'s part is the product of the `c`-th stretch. -/
theorem lane_part (c : Dev nD) (x : FVec Ideal (Sh 2048) .bf16) (j : Fin 512) :
    lane (k0_pay2 (F := Ideal) (share c x)) j = stretch (col x j) c.val :=
  (lane_total (share c x) j).trans (Finset.prod_congr rfl fun _ hk => col_part c x j (Finset.mem_range.1 hk))

/-- From a whole array whose columns hold the running products `y` of `x`, device `c`'s result is its part of `y`. -/
theorem out_part (x y : FVec Ideal (Sh 2048) .bf16)
    (hy : ∀ j, ∀ r < 2048, col y j r = ∏ i ∈ Finset.range (r + 1), col x j i) (c : Dev nD) :
    outOf (F := Ideal) c (share c x) (k0_pay2 (F := Ideal) (share (bwd 0 c) x)) (k0_pay2 (F := Ideal) (share (bwd 1 c) x)) (k0_pay2 (F := Ideal) (share (bwd 2 c) x))
      = share c y := by
  have hc : c.val < 4 := c.isLt
  refine ext_col (n := 512) fun j k hk => ?_
  refine (col_outOf c _ _ _ _ j hk).trans ?_
  have own : ∏ i ∈ Finset.range (k + 1), col (share c x) j i = ∏ i ∈ Finset.range (k + 1), col x j (512 * c.val + i) :=
    Finset.prod_congr rfl fun i hi => col_part c x j (by have := Finset.mem_range.1 hi; omega)
  rw [col_part c y j hk, hy j _ (by omega), before, lane_part, lane_part, lane_part, prod_before, Nat.add_assoc,
    Finset.prod_range_add _ (512 * c.val) (k + 1), mul_comm]
  exact congrArg _ own

end Cert.Scan

end
-- ==== Proof.lean ====
/-
# The certificate

The kernel's two programs have one text, so one run of the launch gives both frames, at each reading of the floats; the
reference's run gives the third.  The equation is the kernel's blocks against the reference's rows.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Reference
public import proofs.«01_k».proof.Proof.Equation

@[expose] public section

noncomputable section

namespace Cert.Proof

open Idealize.ShloMosaic Idealize.SL.Sem Idealize.ShloMosaic.TcCoe

/-- The two programs' kernel bodies are one. -/
theorem bodies_same : Cert.Kernel.defs₀ (F := Bits) = Cert.KernelIdeal.defs₀ (F := Bits) :=
  congrArg Defs.onTc (funext fun l => funext fun a => by
    match l, a with
    | 0, (_, _) => rfl
    | ⟨_ + 1, h⟩, _ => exact absurd h (Nat.not_lt.2 (Nat.le_add_left _ _)))

/-- So are their launches. -/
theorem launches_same : Cert.Kernel.defs (F := Bits) = Cert.KernelIdeal.defs (F := Bits) :=
  congrArg (Pipeline.defs (Cert.KernelIdeal.pcfgs (F := Bits))) bodies_same

/-- The kernel on machine numbers terminates, leaves its argument as it was and every counter at zero. -/
theorem frame_kernel : Cert.quiescent_Kernel (hKernel := Cert.Kernel.Gen.facts) := fun m ρ _ => by
  have h : θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
    (θ_run _ _ _).mono (fun _ h => ⟨h.2.1, h.2.2⟩) (Cert.Scan.run_kernel (F := Bits) m ρ)
  rw [launches_same]
  exact h

/-- The same on the extended reals. -/
theorem frame_kernelIdeal : Cert.quiescent_KernelIdeal (hKernelIdeal := Cert.KernelIdeal.Gen.facts) := fun m ρ _ =>
  (θ_run (Cert.KernelIdeal.defs (F := Ideal)) _ _).mono (fun _ h => ⟨h.2.1, h.2.2⟩) (Cert.Scan.run_kernel (F := Ideal) m ρ)

/-- The reference terminates, leaves its argument as it was and every counter at zero. -/
theorem frame_reference : Cert.quiescent_ReferenceIdeal (hReferenceIdeal := Cert.ReferenceIdeal.Gen.facts) := fun m ρ _ =>
  (θ_run (Cert.ReferenceIdeal.defs (F := Ideal)) _ _).mono (fun _ h => ⟨fun c => (h.1 c).2, h.2⟩) (Cert.Scan.Ref.run_reference m ρ)

/-- From blocks of one array, each device's result is its block of the reference's result. -/
theorem algebraic : Cert.algebraic_KernelIdeal_ReferenceIdeal (hKernelIdeal := Cert.KernelIdeal.Gen.facts)
    (hReferenceIdeal := Cert.ReferenceIdeal.Gen.facts) := fun m ρ m' ρ' _ hm => by
  have hx : ∀ c : Dev Cert.KernelIdeal.nD, Cert.Scan.xblk (F := Ideal) m ρ c
      = Cert.Scan.share c (m' (((0 : Dev Cert.ReferenceIdeal.nD).tc : Thread Cert.ReferenceIdeal.nD Cert.ReferenceIdeal.τ).loc Cert.ReferenceIdeal.main_arg0)) :=
    fun c => (Cert.Scan.xblk_eq m ρ c).trans (hm c)
  refine ⟨Cert.Scan.Ref.answer m' 0,
    (θ_run (Cert.KernelIdeal.defs (F := Ideal)) _ _).mono (fun r h c => ⟨(h.1 c).trans ?_, h.2.1 c⟩)
      (Cert.Scan.run_kernel (F := Ideal) m ρ),
    (θ_run (Cert.ReferenceIdeal.defs (F := Ideal)) _ _).mono (fun r h => h.1 0) (Cert.Scan.Ref.run_reference m' ρ')⟩
  refine Eq.trans ?_ (Cert.Scan.out_part _ _ (fun j r hr => Cert.Scan.Ref.col_answer m' 0 j hr) c)
  unfold Cert.Scan.outAt Cert.Scan.tot
  rw [hx, hx, hx, hx]

/-- All five claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
